-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvPlainIdeal (m : (ℓ : Loc Cert.QkvPlainIdeal.nD Cert.QkvPlainIdeal.τ Cert.QkvPlainIdeal.sig) → Buf (Elt Ideal) ℓ) : Prop :=
  True

def Pre_MlpOne (m : (ℓ : Loc Cert.MlpOne.nD Cert.MlpOne.τ Cert.MlpOne.sig) → Buf (Elt Bits) ℓ) : Prop :=
  True

def Pre_MlpOneIdeal (m : (ℓ : Loc Cert.MlpOneIdeal.nD Cert.MlpOneIdeal.τ Cert.MlpOneIdeal.sig) → Buf (Elt Ideal) ℓ) : Prop :=
  True

def Pre_MlpOnePlainIdeal (m : (ℓ : Loc Cert.MlpOnePlainIdeal.nD Cert.MlpOnePlainIdeal.τ Cert.MlpOnePlainIdeal.sig) → Buf (Elt Ideal) ℓ) : Prop :=
  True

def Pre_MlpTwo (m : (ℓ : Loc Cert.MlpTwo.nD Cert.MlpTwo.τ Cert.MlpTwo.sig) → Buf (Elt Bits) ℓ) : Prop :=
  True

def Pre_MlpTwoIdeal (m : (ℓ : Loc Cert.MlpTwoIdeal.nD Cert.MlpTwoIdeal.τ Cert.MlpTwoIdeal.sig) → Buf (Elt Ideal) ℓ) : Prop :=
  True

def Pre_MlpTwoPlainIdeal (m : (ℓ : Loc Cert.MlpTwoPlainIdeal.nD Cert.MlpTwoPlainIdeal.τ Cert.MlpTwoPlainIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvPlainIdeal [hQkvPlainIdeal : Cert.QkvPlainIdeal.Facts] : Prop :=
  ∀ (m : (ℓ : Loc Cert.QkvPlainIdeal.nD Cert.QkvPlainIdeal.τ Cert.QkvPlainIdeal.sig) → Buf (Elt Ideal) ℓ) (g : Dev Cert.QkvPlainIdeal.nD → PrngReg), Pre_QkvPlainIdeal m →
    θ_run (Cert.QkvPlainIdeal.defs (F := Ideal)) (onTc (τ := Cert.QkvPlainIdeal.τ) (Cert.QkvPlainIdeal.main (F := Ideal))) ⟨m, fun _ => 0, g⟩ (fun r => (∀ c : Dev Cert.QkvPlainIdeal.nD,
      r.2.mem ((c.tc : Thread Cert.QkvPlainIdeal.nD Cert.QkvPlainIdeal.τ).loc Cert.QkvPlainIdeal.main_arg0) = m ((c.tc : Thread Cert.QkvPlainIdeal.nD Cert.QkvPlainIdeal.τ).loc Cert.QkvPlainIdeal.main_arg0)
      ∧ r.2.mem ((c.tc : Thread Cert.QkvPlainIdeal.nD Cert.QkvPlainIdeal.τ).loc Cert.QkvPlainIdeal.main_arg1) = m ((c.tc : Thread Cert.QkvPlainIdeal.nD Cert.QkvPlainIdeal.τ).loc Cert.QkvPlainIdeal.main_arg1)
      ∧ r.2.mem ((c.tc : Thread Cert.QkvPlainIdeal.nD Cert.QkvPlainIdeal.τ).loc Cert.QkvPlainIdeal.main_arg2) = m ((c.tc : Thread Cert.QkvPlainIdeal.nD Cert.QkvPlainIdeal.τ).loc Cert.QkvPlainIdeal.main_arg2)
      ∧ r.2.mem ((c.tc : Thread Cert.QkvPlainIdeal.nD Cert.QkvPlainIdeal.τ).loc Cert.QkvPlainIdeal.main_arg3) = m ((c.tc : Thread Cert.QkvPlainIdeal.nD Cert.QkvPlainIdeal.τ).loc Cert.QkvPlainIdeal.main_arg3)
      ∧ r.2.mem ((c.tc : Thread Cert.QkvPlainIdeal.nD Cert.QkvPlainIdeal.τ).loc Cert.QkvPlainIdeal.main_arg4) = m ((c.tc : Thread Cert.QkvPlainIdeal.nD Cert.QkvPlainIdeal.τ).loc Cert.QkvPlainIdeal.main_arg4)
      ∧ r.2.mem ((c.tc : Thread Cert.QkvPlainIdeal.nD Cert.QkvPlainIdeal.τ).loc Cert.QkvPlainIdeal.main_arg5) = m ((c.tc : Thread Cert.QkvPlainIdeal.nD Cert.QkvPlainIdeal.τ).loc Cert.QkvPlainIdeal.main_arg5))
      ∧ r.2.sem = fun _ => 0)

def quiescent_MlpOne [hMlpOne : Cert.MlpOne.Facts] : Prop :=
  ∀ (m : (ℓ : Loc Cert.MlpOne.nD Cert.MlpOne.τ Cert.MlpOne.sig) → Buf (Elt Bits) ℓ) (g : Dev Cert.MlpOne.nD → PrngReg), Pre_MlpOne m →
    θ_run (Cert.MlpOne.defs (F := Bits)) (onTc (τ := Cert.MlpOne.τ) (Cert.MlpOne.main (F := Bits))) ⟨m, fun _ => 0, g⟩ (fun r => (∀ c : Dev Cert.MlpOne.nD,
      r.2.mem ((c.tc : Thread Cert.MlpOne.nD Cert.MlpOne.τ).loc Cert.MlpOne.main_arg0) = m ((c.tc : Thread Cert.MlpOne.nD Cert.MlpOne.τ).loc Cert.MlpOne.main_arg0)
      ∧ r.2.mem ((c.tc : Thread Cert.MlpOne.nD Cert.MlpOne.τ).loc Cert.MlpOne.main_arg1) = m ((c.tc : Thread Cert.MlpOne.nD Cert.MlpOne.τ).loc Cert.MlpOne.main_arg1)
      ∧ r.2.mem ((c.tc : Thread Cert.MlpOne.nD Cert.MlpOne.τ).loc Cert.MlpOne.main_arg2) = m ((c.tc : Thread Cert.MlpOne.nD Cert.MlpOne.τ).loc Cert.MlpOne.main_arg2)
      ∧ r.2.mem ((c.tc : Thread Cert.MlpOne.nD Cert.MlpOne.τ).loc Cert.MlpOne.main_arg3) = m ((c.tc : Thread Cert.MlpOne.nD Cert.MlpOne.τ).loc Cert.MlpOne.main_arg3)
      ∧ r.2.mem ((c.tc : Thread Cert.MlpOne.nD Cert.MlpOne.τ).loc Cert.MlpOne.main_arg4) = m ((c.tc : Thread Cert.MlpOne.nD Cert.MlpOne.τ).loc Cert.MlpOne.main_arg4)
      ∧ r.2.mem ((c.tc : Thread Cert.MlpOne.nD Cert.MlpOne.τ).loc Cert.MlpOne.main_arg5) = m ((c.tc : Thread Cert.MlpOne.nD Cert.MlpOne.τ).loc Cert.MlpOne.main_arg5)
      ∧ r.2.mem ((c.tc : Thread Cert.MlpOne.nD Cert.MlpOne.τ).loc Cert.MlpOne.main_arg6) = m ((c.tc : Thread Cert.MlpOne.nD Cert.MlpOne.τ).loc Cert.MlpOne.main_arg6)
      ∧ r.2.mem ((c.tc : Thread Cert.MlpOne.nD Cert.MlpOne.τ).loc Cert.MlpOne.main_arg7) = m ((c.tc : Thread Cert.MlpOne.nD Cert.MlpOne.τ).loc Cert.MlpOne.main_arg7)
      ∧ r.2.mem ((c.tc : Thread Cert.MlpOne.nD Cert.MlpOne.τ).loc Cert.MlpOne.main_arg8) = m ((c.tc : Thread Cert.MlpOne.nD Cert.MlpOne.τ).loc Cert.MlpOne.main_arg8)
      ∧ r.2.mem ((c.tc : Thread Cert.MlpOne.nD Cert.MlpOne.τ).loc Cert.MlpOne.main_arg9) = m ((c.tc : Thread Cert.MlpOne.nD Cert.MlpOne.τ).loc Cert.MlpOne.main_arg9)
      ∧ r.2.mem ((c.tc : Thread Cert.MlpOne.nD Cert.MlpOne.τ).loc Cert.MlpOne.main_arg10) = m ((c.tc : Thread Cert.MlpOne.nD Cert.MlpOne.τ).loc Cert.MlpOne.main_arg10))
      ∧ r.2.sem = fun _ => 0)

def quiescent_MlpOneIdeal [hMlpOneIdeal : Cert.MlpOneIdeal.Facts] : Prop :=
  ∀ (m : (ℓ : Loc Cert.MlpOneIdeal.nD Cert.MlpOneIdeal.τ Cert.MlpOneIdeal.sig) → Buf (Elt Ideal) ℓ) (g : Dev Cert.MlpOneIdeal.nD → PrngReg), Pre_MlpOneIdeal m →
    θ_run (Cert.MlpOneIdeal.defs (F := Ideal)) (onTc (τ := Cert.MlpOneIdeal.τ) (Cert.MlpOneIdeal.main (F := Ideal))) ⟨m, fun _ => 0, g⟩ (fun r => (∀ c : Dev Cert.MlpOneIdeal.nD,
      r.2.mem ((c.tc : Thread Cert.MlpOneIdeal.nD Cert.MlpOneIdeal.τ).loc Cert.MlpOneIdeal.main_arg0) = m ((c.tc : Thread Cert.MlpOneIdeal.nD Cert.MlpOneIdeal.τ).loc Cert.MlpOneIdeal.main_arg0)
      ∧ r.2.mem ((c.tc : Thread Cert.MlpOneIdeal.nD Cert.MlpOneIdeal.τ).loc Cert.MlpOneIdeal.main_arg1) = m ((c.tc : Thread Cert.MlpOneIdeal.nD Cert.MlpOneIdeal.τ).loc Cert.MlpOneIdeal.main_arg1)
      ∧ r.2.mem ((c.tc : Thread Cert.MlpOneIdeal.nD Cert.MlpOneIdeal.τ).loc Cert.MlpOneIdeal.main_arg2) = m ((c.tc : Thread Cert.MlpOneIdeal.nD Cert.MlpOneIdeal.τ).loc Cert.MlpOneIdeal.main_arg2)
      ∧ r.2.mem ((c.tc : Thread Cert.MlpOneIdeal.nD Cert.MlpOneIdeal.τ).loc Cert.MlpOneIdeal.main_arg3) = m ((c.tc : Thread Cert.MlpOneIdeal.nD Cert.MlpOneIdeal.τ).loc Cert.MlpOneIdeal.main_arg3)
      ∧ r.2.mem ((c.tc : Thread Cert.MlpOneIdeal.nD Cert.MlpOneIdeal.τ).loc Cert.MlpOneIdeal.main_arg4) = m ((c.tc : Thread Cert.MlpOneIdeal.nD Cert.MlpOneIdeal.τ).loc Cert.MlpOneIdeal.main_arg4)
      ∧ r.2.mem ((c.tc : Thread Cert.MlpOneIdeal.nD Cert.MlpOneIdeal.τ).loc Cert.MlpOneIdeal.main_arg5) = m ((c.tc : Thread Cert.MlpOneIdeal.nD Cert.MlpOneIdeal.τ).loc Cert.MlpOneIdeal.main_arg5)
      ∧ r.2.mem ((c.tc : Thread Cert.MlpOneIdeal.nD Cert.MlpOneIdeal.τ).loc Cert.MlpOneIdeal.main_arg6) = m ((c.tc : Thread Cert.MlpOneIdeal.nD Cert.MlpOneIdeal.τ).loc Cert.MlpOneIdeal.main_arg6)
      ∧ r.2.mem ((c.tc : Thread Cert.MlpOneIdeal.nD Cert.MlpOneIdeal.τ).loc Cert.MlpOneIdeal.main_arg7) = m ((c.tc : Thread Cert.MlpOneIdeal.nD Cert.MlpOneIdeal.τ).loc Cert.MlpOneIdeal.main_arg7)
      ∧ r.2.mem ((c.tc : Thread Cert.MlpOneIdeal.nD Cert.MlpOneIdeal.τ).loc Cert.MlpOneIdeal.main_arg8) = m ((c.tc : Thread Cert.MlpOneIdeal.nD Cert.MlpOneIdeal.τ).loc Cert.MlpOneIdeal.main_arg8)
      ∧ r.2.mem ((c.tc : Thread Cert.MlpOneIdeal.nD Cert.MlpOneIdeal.τ).loc Cert.MlpOneIdeal.main_arg9) = m ((c.tc : Thread Cert.MlpOneIdeal.nD Cert.MlpOneIdeal.τ).loc Cert.MlpOneIdeal.main_arg9)
      ∧ r.2.mem ((c.tc : Thread Cert.MlpOneIdeal.nD Cert.MlpOneIdeal.τ).loc Cert.MlpOneIdeal.main_arg10) = m ((c.tc : Thread Cert.MlpOneIdeal.nD Cert.MlpOneIdeal.τ).loc Cert.MlpOneIdeal.main_arg10))
      ∧ r.2.sem = fun _ => 0)

def quiescent_MlpOnePlainIdeal [hMlpOnePlainIdeal : Cert.MlpOnePlainIdeal.Facts] : Prop :=
  ∀ (m : (ℓ : Loc Cert.MlpOnePlainIdeal.nD Cert.MlpOnePlainIdeal.τ Cert.MlpOnePlainIdeal.sig) → Buf (Elt Ideal) ℓ) (g : Dev Cert.MlpOnePlainIdeal.nD → PrngReg), Pre_MlpOnePlainIdeal m →
    θ_run (Cert.MlpOnePlainIdeal.defs (F := Ideal)) (onTc (τ := Cert.MlpOnePlainIdeal.τ) (Cert.MlpOnePlainIdeal.main (F := Ideal))) ⟨m, fun _ => 0, g⟩ (fun r => (∀ c : Dev Cert.MlpOnePlainIdeal.nD,
      r.2.mem ((c.tc : Thread Cert.MlpOnePlainIdeal.nD Cert.MlpOnePlainIdeal.τ).loc Cert.MlpOnePlainIdeal.main_arg0) = m ((c.tc : Thread Cert.MlpOnePlainIdeal.nD Cert.MlpOnePlainIdeal.τ).loc Cert.MlpOnePlainIdeal.main_arg0)
      ∧ r.2.mem ((c.tc : Thread Cert.MlpOnePlainIdeal.nD Cert.MlpOnePlainIdeal.τ).loc Cert.MlpOnePlainIdeal.main_arg1) = m ((c.tc : Thread Cert.MlpOnePlainIdeal.nD Cert.MlpOnePlainIdeal.τ).loc Cert.MlpOnePlainIdeal.main_arg1)
      ∧ r.2.mem ((c.tc : Thread Cert.MlpOnePlainIdeal.nD Cert.MlpOnePlainIdeal.τ).loc Cert.MlpOnePlainIdeal.main_arg2) = m ((c.tc : Thread Cert.MlpOnePlainIdeal.nD Cert.MlpOnePlainIdeal.τ).loc Cert.MlpOnePlainIdeal.main_arg2)
      ∧ r.2.mem ((c.tc : Thread Cert.MlpOnePlainIdeal.nD Cert.MlpOnePlainIdeal.τ).loc Cert.MlpOnePlainIdeal.main_arg3) = m ((c.tc : Thread Cert.MlpOnePlainIdeal.nD Cert.MlpOnePlainIdeal.τ).loc Cert.MlpOnePlainIdeal.main_arg3)
      ∧ r.2.mem ((c.tc : Thread Cert.MlpOnePlainIdeal.nD Cert.MlpOnePlainIdeal.τ).loc Cert.MlpOnePlainIdeal.main_arg4) = m ((c.tc : Thread Cert.MlpOnePlainIdeal.nD Cert.MlpOnePlainIdeal.τ).loc Cert.MlpOnePlainIdeal.main_arg4)
      ∧ r.2.mem ((c.tc : Thread Cert.MlpOnePlainIdeal.nD Cert.MlpOnePlainIdeal.τ).loc Cert.MlpOnePlainIdeal.main_arg5) = m ((c.tc : Thread Cert.MlpOnePlainIdeal.nD Cert.MlpOnePlainIdeal.τ).loc Cert.MlpOnePlainIdeal.main_arg5)
      ∧ r.2.mem ((c.tc : Thread Cert.MlpOnePlainIdeal.nD Cert.MlpOnePlainIdeal.τ).loc Cert.MlpOnePlainIdeal.main_arg6) = m ((c.tc : Thread Cert.MlpOnePlainIdeal.nD Cert.MlpOnePlainIdeal.τ).loc Cert.MlpOnePlainIdeal.main_arg6)
      ∧ r.2.mem ((c.tc : Thread Cert.MlpOnePlainIdeal.nD Cert.MlpOnePlainIdeal.τ).loc Cert.MlpOnePlainIdeal.main_arg7) = m ((c.tc : Thread Cert.MlpOnePlainIdeal.nD Cert.MlpOnePlainIdeal.τ).loc Cert.MlpOnePlainIdeal.main_arg7)
      ∧ r.2.mem ((c.tc : Thread Cert.MlpOnePlainIdeal.nD Cert.MlpOnePlainIdeal.τ).loc Cert.MlpOnePlainIdeal.main_arg8) = m ((c.tc : Thread Cert.MlpOnePlainIdeal.nD Cert.MlpOnePlainIdeal.τ).loc Cert.MlpOnePlainIdeal.main_arg8)
      ∧ r.2.mem ((c.tc : Thread Cert.MlpOnePlainIdeal.nD Cert.MlpOnePlainIdeal.τ).loc Cert.MlpOnePlainIdeal.main_arg9) = m ((c.tc : Thread Cert.MlpOnePlainIdeal.nD Cert.MlpOnePlainIdeal.τ).loc Cert.MlpOnePlainIdeal.main_arg9)
      ∧ r.2.mem ((c.tc : Thread Cert.MlpOnePlainIdeal.nD Cert.MlpOnePlainIdeal.τ).loc Cert.MlpOnePlainIdeal.main_arg10) = m ((c.tc : Thread Cert.MlpOnePlainIdeal.nD Cert.MlpOnePlainIdeal.τ).loc Cert.MlpOnePlainIdeal.main_arg10))
      ∧ r.2.sem = fun _ => 0)

def quiescent_MlpTwo [hMlpTwo : Cert.MlpTwo.Facts] : Prop :=
  ∀ (m : (ℓ : Loc Cert.MlpTwo.nD Cert.MlpTwo.τ Cert.MlpTwo.sig) → Buf (Elt Bits) ℓ) (g : Dev Cert.MlpTwo.nD → PrngReg), Pre_MlpTwo m →
    θ_run (Cert.MlpTwo.defs (F := Bits)) (onTc (τ := Cert.MlpTwo.τ) (Cert.MlpTwo.main (F := Bits))) ⟨m, fun _ => 0, g⟩ (fun r => (∀ c : Dev Cert.MlpTwo.nD,
      r.2.mem ((c.tc : Thread Cert.MlpTwo.nD Cert.MlpTwo.τ).loc Cert.MlpTwo.main_arg0) = m ((c.tc : Thread Cert.MlpTwo.nD Cert.MlpTwo.τ).loc Cert.MlpTwo.main_arg0)
      ∧ r.2.mem ((c.tc : Thread Cert.MlpTwo.nD Cert.MlpTwo.τ).loc Cert.MlpTwo.main_arg1) = m ((c.tc : Thread Cert.MlpTwo.nD Cert.MlpTwo.τ).loc Cert.MlpTwo.main_arg1)
      ∧ r.2.mem ((c.tc : Thread Cert.MlpTwo.nD Cert.MlpTwo.τ).loc Cert.MlpTwo.main_arg2) = m ((c.tc : Thread Cert.MlpTwo.nD Cert.MlpTwo.τ).loc Cert.MlpTwo.main_arg2)
      ∧ r.2.mem ((c.tc : Thread Cert.MlpTwo.nD Cert.MlpTwo.τ).loc Cert.MlpTwo.main_arg3) = m ((c.tc : Thread Cert.MlpTwo.nD Cert.MlpTwo.τ).loc Cert.MlpTwo.main_arg3)
      ∧ r.2.mem ((c.tc : Thread Cert.MlpTwo.nD Cert.MlpTwo.τ).loc Cert.MlpTwo.main_arg4) = m ((c.tc : Thread Cert.MlpTwo.nD Cert.MlpTwo.τ).loc Cert.MlpTwo.main_arg4)
      ∧ r.2.mem ((c.tc : Thread Cert.MlpTwo.nD Cert.MlpTwo.τ).loc Cert.MlpTwo.main_arg5) = m ((c.tc : Thread Cert.MlpTwo.nD Cert.MlpTwo.τ).loc Cert.MlpTwo.main_arg5))
      ∧ r.2.sem = fun _ => 0)

def quiescent_MlpTwoIdeal [hMlpTwoIdeal : Cert.MlpTwoIdeal.Facts] : Prop :=
  ∀ (m : (ℓ : Loc Cert.MlpTwoIdeal.nD Cert.MlpTwoIdeal.τ Cert.MlpTwoIdeal.sig) → Buf (Elt Ideal) ℓ) (g : Dev Cert.MlpTwoIdeal.nD → PrngReg), Pre_MlpTwoIdeal m →
    θ_run (Cert.MlpTwoIdeal.defs (F := Ideal)) (onTc (τ := Cert.MlpTwoIdeal.τ) (Cert.MlpTwoIdeal.main (F := Ideal))) ⟨m, fun _ => 0, g⟩ (fun r => (∀ c : Dev Cert.MlpTwoIdeal.nD,
      r.2.mem ((c.tc : Thread Cert.MlpTwoIdeal.nD Cert.MlpTwoIdeal.τ).loc Cert.MlpTwoIdeal.main_arg0) = m ((c.tc : Thread Cert.MlpTwoIdeal.nD Cert.MlpTwoIdeal.τ).loc Cert.MlpTwoIdeal.main_arg0)
      ∧ r.2.mem ((c.tc : Thread Cert.MlpTwoIdeal.nD Cert.MlpTwoIdeal.τ).loc Cert.MlpTwoIdeal.main_arg1) = m ((c.tc : Thread Cert.MlpTwoIdeal.nD Cert.MlpTwoIdeal.τ).loc Cert.MlpTwoIdeal.main_arg1)
      ∧ r.2.mem ((c.tc : Thread Cert.MlpTwoIdeal.nD Cert.MlpTwoIdeal.τ).loc Cert.MlpTwoIdeal.main_arg2) = m ((c.tc : Thread Cert.MlpTwoIdeal.nD Cert.MlpTwoIdeal.τ).loc Cert.MlpTwoIdeal.main_arg2)
      ∧ r.2.mem ((c.tc : Thread Cert.MlpTwoIdeal.nD Cert.MlpTwoIdeal.τ).loc Cert.MlpTwoIdeal.main_arg3) = m ((c.tc : Thread Cert.MlpTwoIdeal.nD Cert.MlpTwoIdeal.τ).loc Cert.MlpTwoIdeal.main_arg3)
      ∧ r.2.mem ((c.tc : Thread Cert.MlpTwoIdeal.nD Cert.MlpTwoIdeal.τ).loc Cert.MlpTwoIdeal.main_arg4) = m ((c.tc : Thread Cert.MlpTwoIdeal.nD Cert.MlpTwoIdeal.τ).loc Cert.MlpTwoIdeal.main_arg4)
      ∧ r.2.mem ((c.tc : Thread Cert.MlpTwoIdeal.nD Cert.MlpTwoIdeal.τ).loc Cert.MlpTwoIdeal.main_arg5) = m ((c.tc : Thread Cert.MlpTwoIdeal.nD Cert.MlpTwoIdeal.τ).loc Cert.MlpTwoIdeal.main_arg5))
      ∧ r.2.sem = fun _ => 0)

def quiescent_MlpTwoPlainIdeal [hMlpTwoPlainIdeal : Cert.MlpTwoPlainIdeal.Facts] : Prop :=
  ∀ (m : (ℓ : Loc Cert.MlpTwoPlainIdeal.nD Cert.MlpTwoPlainIdeal.τ Cert.MlpTwoPlainIdeal.sig) → Buf (Elt Ideal) ℓ) (g : Dev Cert.MlpTwoPlainIdeal.nD → PrngReg), Pre_MlpTwoPlainIdeal m →
    θ_run (Cert.MlpTwoPlainIdeal.defs (F := Ideal)) (onTc (τ := Cert.MlpTwoPlainIdeal.τ) (Cert.MlpTwoPlainIdeal.main (F := Ideal))) ⟨m, fun _ => 0, g⟩ (fun r => (∀ c : Dev Cert.MlpTwoPlainIdeal.nD,
      r.2.mem ((c.tc : Thread Cert.MlpTwoPlainIdeal.nD Cert.MlpTwoPlainIdeal.τ).loc Cert.MlpTwoPlainIdeal.main_arg0) = m ((c.tc : Thread Cert.MlpTwoPlainIdeal.nD Cert.MlpTwoPlainIdeal.τ).loc Cert.MlpTwoPlainIdeal.main_arg0)
      ∧ r.2.mem ((c.tc : Thread Cert.MlpTwoPlainIdeal.nD Cert.MlpTwoPlainIdeal.τ).loc Cert.MlpTwoPlainIdeal.main_arg1) = m ((c.tc : Thread Cert.MlpTwoPlainIdeal.nD Cert.MlpTwoPlainIdeal.τ).loc Cert.MlpTwoPlainIdeal.main_arg1)
      ∧ r.2.mem ((c.tc : Thread Cert.MlpTwoPlainIdeal.nD Cert.MlpTwoPlainIdeal.τ).loc Cert.MlpTwoPlainIdeal.main_arg2) = m ((c.tc : Thread Cert.MlpTwoPlainIdeal.nD Cert.MlpTwoPlainIdeal.τ).loc Cert.MlpTwoPlainIdeal.main_arg2)
      ∧ r.2.mem ((c.tc : Thread Cert.MlpTwoPlainIdeal.nD Cert.MlpTwoPlainIdeal.τ).loc Cert.MlpTwoPlainIdeal.main_arg3) = m ((c.tc : Thread Cert.MlpTwoPlainIdeal.nD Cert.MlpTwoPlainIdeal.τ).loc Cert.MlpTwoPlainIdeal.main_arg3)
      ∧ r.2.mem ((c.tc : Thread Cert.MlpTwoPlainIdeal.nD Cert.MlpTwoPlainIdeal.τ).loc Cert.MlpTwoPlainIdeal.main_arg4) = m ((c.tc : Thread Cert.MlpTwoPlainIdeal.nD Cert.MlpTwoPlainIdeal.τ).loc Cert.MlpTwoPlainIdeal.main_arg4)
      ∧ r.2.mem ((c.tc : Thread Cert.MlpTwoPlainIdeal.nD Cert.MlpTwoPlainIdeal.τ).loc Cert.MlpTwoPlainIdeal.main_arg5) = m ((c.tc : Thread Cert.MlpTwoPlainIdeal.nD Cert.MlpTwoPlainIdeal.τ).loc Cert.MlpTwoPlainIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def preserves_Qkv_QkvIdeal : Prop :=
  True

def algebraic_QkvIdeal_QkvPlainIdeal [hQkvIdeal : Cert.QkvIdeal.Facts] [hQkvPlainIdeal : Cert.QkvPlainIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvPlainIdeal.nD Cert.QkvPlainIdeal.τ Cert.QkvPlainIdeal.sig) → Buf (Elt Ideal) ℓ) (g' : Dev Cert.QkvPlainIdeal.nD → PrngReg), Pre_QkvIdeal m →
    (∀ c : Dev Cert.QkvIdeal.nD,
      m' ((c.tc : Thread Cert.QkvPlainIdeal.nD Cert.QkvPlainIdeal.τ).loc Cert.QkvPlainIdeal.main_arg0) = m ((c.tc : Thread Cert.QkvIdeal.nD Cert.QkvIdeal.τ).loc Cert.QkvIdeal.main_arg0)
      ∧ m' ((c.tc : Thread Cert.QkvPlainIdeal.nD Cert.QkvPlainIdeal.τ).loc Cert.QkvPlainIdeal.main_arg1) = m ((c.tc : Thread Cert.QkvIdeal.nD Cert.QkvIdeal.τ).loc Cert.QkvIdeal.main_arg1)
      ∧ m' ((c.tc : Thread Cert.QkvPlainIdeal.nD Cert.QkvPlainIdeal.τ).loc Cert.QkvPlainIdeal.main_arg2) = m ((c.tc : Thread Cert.QkvIdeal.nD Cert.QkvIdeal.τ).loc Cert.QkvIdeal.main_arg2)
      ∧ m' ((c.tc : Thread Cert.QkvPlainIdeal.nD Cert.QkvPlainIdeal.τ).loc Cert.QkvPlainIdeal.main_arg3) = m ((c.tc : Thread Cert.QkvIdeal.nD Cert.QkvIdeal.τ).loc Cert.QkvIdeal.main_arg3)
      ∧ m' ((c.tc : Thread Cert.QkvPlainIdeal.nD Cert.QkvPlainIdeal.τ).loc Cert.QkvPlainIdeal.main_arg4) = m ((c.tc : Thread Cert.QkvIdeal.nD Cert.QkvIdeal.τ).loc Cert.QkvIdeal.main_arg4)
      ∧ m' ((c.tc : Thread Cert.QkvPlainIdeal.nD Cert.QkvPlainIdeal.τ).loc Cert.QkvPlainIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)) (v6 : (c : Dev Cert.QkvIdeal.nD) → Buf (Elt Ideal) ((c.tc : Thread Cert.QkvIdeal.nD Cert.QkvIdeal.τ).loc Cert.QkvIdeal.main_v0_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_v0_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvPlainIdeal.defs (F := Ideal)) (onTc (τ := Cert.QkvPlainIdeal.τ) (Cert.QkvPlainIdeal.main (F := Ideal))) ⟨m', fun _ => 0, g'⟩ (fun r => ∀ c : Dev Cert.QkvPlainIdeal.nD,
          r.2.mem ((c.tc : Thread Cert.QkvPlainIdeal.nD Cert.QkvPlainIdeal.τ).loc Cert.QkvPlainIdeal.main_v0_0) = v0 c
          ∧ r.2.mem ((c.tc : Thread Cert.QkvPlainIdeal.nD Cert.QkvPlainIdeal.τ).loc Cert.QkvPlainIdeal.main_v0_1) = v1 c
          ∧ r.2.mem ((c.tc : Thread Cert.QkvPlainIdeal.nD Cert.QkvPlainIdeal.τ).loc Cert.QkvPlainIdeal.main_v0_2) = v2 c
          ∧ r.2.mem ((c.tc : Thread Cert.QkvPlainIdeal.nD Cert.QkvPlainIdeal.τ).loc Cert.QkvPlainIdeal.main_v0_3) = v3 c
          ∧ r.2.mem ((c.tc : Thread Cert.QkvPlainIdeal.nD Cert.QkvPlainIdeal.τ).loc Cert.QkvPlainIdeal.main_v0_4) = v4 c
          ∧ r.2.mem ((c.tc : Thread Cert.QkvPlainIdeal.nD Cert.QkvPlainIdeal.τ).loc Cert.QkvPlainIdeal.main_v0_5) = v5 c
          ∧ r.2.mem ((c.tc : Thread Cert.QkvPlainIdeal.nD Cert.QkvPlainIdeal.τ).loc Cert.QkvPlainIdeal.main_v0_6) = v6 c
          ∧ r.2.mem ((c.tc : Thread Cert.QkvPlainIdeal.nD Cert.QkvPlainIdeal.τ).loc Cert.QkvPlainIdeal.main_arg0) = m' ((c.tc : Thread Cert.QkvPlainIdeal.nD Cert.QkvPlainIdeal.τ).loc Cert.QkvPlainIdeal.main_arg0)
          ∧ r.2.mem ((c.tc : Thread Cert.QkvPlainIdeal.nD Cert.QkvPlainIdeal.τ).loc Cert.QkvPlainIdeal.main_arg1) = m' ((c.tc : Thread Cert.QkvPlainIdeal.nD Cert.QkvPlainIdeal.τ).loc Cert.QkvPlainIdeal.main_arg1)
          ∧ r.2.mem ((c.tc : Thread Cert.QkvPlainIdeal.nD Cert.QkvPlainIdeal.τ).loc Cert.QkvPlainIdeal.main_arg2) = m' ((c.tc : Thread Cert.QkvPlainIdeal.nD Cert.QkvPlainIdeal.τ).loc Cert.QkvPlainIdeal.main_arg2)
          ∧ r.2.mem ((c.tc : Thread Cert.QkvPlainIdeal.nD Cert.QkvPlainIdeal.τ).loc Cert.QkvPlainIdeal.main_arg3) = m' ((c.tc : Thread Cert.QkvPlainIdeal.nD Cert.QkvPlainIdeal.τ).loc Cert.QkvPlainIdeal.main_arg3)
          ∧ r.2.mem ((c.tc : Thread Cert.QkvPlainIdeal.nD Cert.QkvPlainIdeal.τ).loc Cert.QkvPlainIdeal.main_arg4) = m' ((c.tc : Thread Cert.QkvPlainIdeal.nD Cert.QkvPlainIdeal.τ).loc Cert.QkvPlainIdeal.main_arg4)
          ∧ r.2.mem ((c.tc : Thread Cert.QkvPlainIdeal.nD Cert.QkvPlainIdeal.τ).loc Cert.QkvPlainIdeal.main_arg5) = m' ((c.tc : Thread Cert.QkvPlainIdeal.nD Cert.QkvPlainIdeal.τ).loc Cert.QkvPlainIdeal.main_arg5))

def preserves_MlpOne_MlpOneIdeal : Prop :=
  True

def algebraic_MlpOneIdeal_MlpOnePlainIdeal [hMlpOneIdeal : Cert.MlpOneIdeal.Facts] [hMlpOnePlainIdeal : Cert.MlpOnePlainIdeal.Facts] : Prop :=
  ∀ (m : (ℓ : Loc Cert.MlpOneIdeal.nD Cert.MlpOneIdeal.τ Cert.MlpOneIdeal.sig) → Buf (Elt Ideal) ℓ) (g : Dev Cert.MlpOneIdeal.nD → PrngReg)
    (m' : (ℓ : Loc Cert.MlpOnePlainIdeal.nD Cert.MlpOnePlainIdeal.τ Cert.MlpOnePlainIdeal.sig) → Buf (Elt Ideal) ℓ) (g' : Dev Cert.MlpOnePlainIdeal.nD → PrngReg), Pre_MlpOneIdeal m →
    (∀ c : Dev Cert.MlpOneIdeal.nD,
      m' ((c.tc : Thread Cert.MlpOnePlainIdeal.nD Cert.MlpOnePlainIdeal.τ).loc Cert.MlpOnePlainIdeal.main_arg0) = m ((c.tc : Thread Cert.MlpOneIdeal.nD Cert.MlpOneIdeal.τ).loc Cert.MlpOneIdeal.main_arg0)
      ∧ m' ((c.tc : Thread Cert.MlpOnePlainIdeal.nD Cert.MlpOnePlainIdeal.τ).loc Cert.MlpOnePlainIdeal.main_arg1) = m ((c.tc : Thread Cert.MlpOneIdeal.nD Cert.MlpOneIdeal.τ).loc Cert.MlpOneIdeal.main_arg1)
      ∧ m' ((c.tc : Thread Cert.MlpOnePlainIdeal.nD Cert.MlpOnePlainIdeal.τ).loc Cert.MlpOnePlainIdeal.main_arg2) = m ((c.tc : Thread Cert.MlpOneIdeal.nD Cert.MlpOneIdeal.τ).loc Cert.MlpOneIdeal.main_arg2)
      ∧ m' ((c.tc : Thread Cert.MlpOnePlainIdeal.nD Cert.MlpOnePlainIdeal.τ).loc Cert.MlpOnePlainIdeal.main_arg3) = m ((c.tc : Thread Cert.MlpOneIdeal.nD Cert.MlpOneIdeal.τ).loc Cert.MlpOneIdeal.main_arg3)
      ∧ m' ((c.tc : Thread Cert.MlpOnePlainIdeal.nD Cert.MlpOnePlainIdeal.τ).loc Cert.MlpOnePlainIdeal.main_arg4) = m ((c.tc : Thread Cert.MlpOneIdeal.nD Cert.MlpOneIdeal.τ).loc Cert.MlpOneIdeal.main_arg4)
      ∧ m' ((c.tc : Thread Cert.MlpOnePlainIdeal.nD Cert.MlpOnePlainIdeal.τ).loc Cert.MlpOnePlainIdeal.main_arg5) = m ((c.tc : Thread Cert.MlpOneIdeal.nD Cert.MlpOneIdeal.τ).loc Cert.MlpOneIdeal.main_arg5)
      ∧ m' ((c.tc : Thread Cert.MlpOnePlainIdeal.nD Cert.MlpOnePlainIdeal.τ).loc Cert.MlpOnePlainIdeal.main_arg6) = m ((c.tc : Thread Cert.MlpOneIdeal.nD Cert.MlpOneIdeal.τ).loc Cert.MlpOneIdeal.main_arg6)
      ∧ m' ((c.tc : Thread Cert.MlpOnePlainIdeal.nD Cert.MlpOnePlainIdeal.τ).loc Cert.MlpOnePlainIdeal.main_arg7) = m ((c.tc : Thread Cert.MlpOneIdeal.nD Cert.MlpOneIdeal.τ).loc Cert.MlpOneIdeal.main_arg7)
      ∧ m' ((c.tc : Thread Cert.MlpOnePlainIdeal.nD Cert.MlpOnePlainIdeal.τ).loc Cert.MlpOnePlainIdeal.main_arg8) = m ((c.tc : Thread Cert.MlpOneIdeal.nD Cert.MlpOneIdeal.τ).loc Cert.MlpOneIdeal.main_arg8)
      ∧ m' ((c.tc : Thread Cert.MlpOnePlainIdeal.nD Cert.MlpOnePlainIdeal.τ).loc Cert.MlpOnePlainIdeal.main_arg9) = m ((c.tc : Thread Cert.MlpOneIdeal.nD Cert.MlpOneIdeal.τ).loc Cert.MlpOneIdeal.main_arg9)
      ∧ m' ((c.tc : Thread Cert.MlpOnePlainIdeal.nD Cert.MlpOnePlainIdeal.τ).loc Cert.MlpOnePlainIdeal.main_arg10) = m ((c.tc : Thread Cert.MlpOneIdeal.nD Cert.MlpOneIdeal.τ).loc Cert.MlpOneIdeal.main_arg10)) →
    ∃ (v0 : (c : Dev Cert.MlpOneIdeal.nD) → Buf (Elt Ideal) ((c.tc : Thread Cert.MlpOneIdeal.nD Cert.MlpOneIdeal.τ).loc Cert.MlpOneIdeal.main_v0_0)) (v1 : (c : Dev Cert.MlpOneIdeal.nD) → Buf (Elt Ideal) ((c.tc : Thread Cert.MlpOneIdeal.nD Cert.MlpOneIdeal.τ).loc Cert.MlpOneIdeal.main_v0_1)) (v2 : (c : Dev Cert.MlpOneIdeal.nD) → Buf (Elt Ideal) ((c.tc : Thread Cert.MlpOneIdeal.nD Cert.MlpOneIdeal.τ).loc Cert.MlpOneIdeal.main_v0_2)) (v3 : (c : Dev Cert.MlpOneIdeal.nD) → Buf (Elt Ideal) ((c.tc : Thread Cert.MlpOneIdeal.nD Cert.MlpOneIdeal.τ).loc Cert.MlpOneIdeal.main_v0_3)),
      θ_run (Cert.MlpOneIdeal.defs (F := Ideal)) (onTc (τ := Cert.MlpOneIdeal.τ) (Cert.MlpOneIdeal.main (F := Ideal))) ⟨m, fun _ => 0, g⟩ (fun r => ∀ c : Dev Cert.MlpOneIdeal.nD,
          r.2.mem ((c.tc : Thread Cert.MlpOneIdeal.nD Cert.MlpOneIdeal.τ).loc Cert.MlpOneIdeal.main_v0_0) = v0 c
          ∧ r.2.mem ((c.tc : Thread Cert.MlpOneIdeal.nD Cert.MlpOneIdeal.τ).loc Cert.MlpOneIdeal.main_v0_1) = v1 c
          ∧ r.2.mem ((c.tc : Thread Cert.MlpOneIdeal.nD Cert.MlpOneIdeal.τ).loc Cert.MlpOneIdeal.main_v0_2) = v2 c
          ∧ r.2.mem ((c.tc : Thread Cert.MlpOneIdeal.nD Cert.MlpOneIdeal.τ).loc Cert.MlpOneIdeal.main_v0_3) = v3 c
          ∧ r.2.mem ((c.tc : Thread Cert.MlpOneIdeal.nD Cert.MlpOneIdeal.τ).loc Cert.MlpOneIdeal.main_arg0) = m ((c.tc : Thread Cert.MlpOneIdeal.nD Cert.MlpOneIdeal.τ).loc Cert.MlpOneIdeal.main_arg0)
          ∧ r.2.mem ((c.tc : Thread Cert.MlpOneIdeal.nD Cert.MlpOneIdeal.τ).loc Cert.MlpOneIdeal.main_arg1) = m ((c.tc : Thread Cert.MlpOneIdeal.nD Cert.MlpOneIdeal.τ).loc Cert.MlpOneIdeal.main_arg1)
          ∧ r.2.mem ((c.tc : Thread Cert.MlpOneIdeal.nD Cert.MlpOneIdeal.τ).loc Cert.MlpOneIdeal.main_arg2) = m ((c.tc : Thread Cert.MlpOneIdeal.nD Cert.MlpOneIdeal.τ).loc Cert.MlpOneIdeal.main_arg2)
          ∧ r.2.mem ((c.tc : Thread Cert.MlpOneIdeal.nD Cert.MlpOneIdeal.τ).loc Cert.MlpOneIdeal.main_arg3) = m ((c.tc : Thread Cert.MlpOneIdeal.nD Cert.MlpOneIdeal.τ).loc Cert.MlpOneIdeal.main_arg3)
          ∧ r.2.mem ((c.tc : Thread Cert.MlpOneIdeal.nD Cert.MlpOneIdeal.τ).loc Cert.MlpOneIdeal.main_arg4) = m ((c.tc : Thread Cert.MlpOneIdeal.nD Cert.MlpOneIdeal.τ).loc Cert.MlpOneIdeal.main_arg4)
          ∧ r.2.mem ((c.tc : Thread Cert.MlpOneIdeal.nD Cert.MlpOneIdeal.τ).loc Cert.MlpOneIdeal.main_arg5) = m ((c.tc : Thread Cert.MlpOneIdeal.nD Cert.MlpOneIdeal.τ).loc Cert.MlpOneIdeal.main_arg5)
          ∧ r.2.mem ((c.tc : Thread Cert.MlpOneIdeal.nD Cert.MlpOneIdeal.τ).loc Cert.MlpOneIdeal.main_arg6) = m ((c.tc : Thread Cert.MlpOneIdeal.nD Cert.MlpOneIdeal.τ).loc Cert.MlpOneIdeal.main_arg6)
          ∧ r.2.mem ((c.tc : Thread Cert.MlpOneIdeal.nD Cert.MlpOneIdeal.τ).loc Cert.MlpOneIdeal.main_arg7) = m ((c.tc : Thread Cert.MlpOneIdeal.nD Cert.MlpOneIdeal.τ).loc Cert.MlpOneIdeal.main_arg7)
          ∧ r.2.mem ((c.tc : Thread Cert.MlpOneIdeal.nD Cert.MlpOneIdeal.τ).loc Cert.MlpOneIdeal.main_arg8) = m ((c.tc : Thread Cert.MlpOneIdeal.nD Cert.MlpOneIdeal.τ).loc Cert.MlpOneIdeal.main_arg8)
          ∧ r.2.mem ((c.tc : Thread Cert.MlpOneIdeal.nD Cert.MlpOneIdeal.τ).loc Cert.MlpOneIdeal.main_arg9) = m ((c.tc : Thread Cert.MlpOneIdeal.nD Cert.MlpOneIdeal.τ).loc Cert.MlpOneIdeal.main_arg9)
          ∧ r.2.mem ((c.tc : Thread Cert.MlpOneIdeal.nD Cert.MlpOneIdeal.τ).loc Cert.MlpOneIdeal.main_arg10) = m ((c.tc : Thread Cert.MlpOneIdeal.nD Cert.MlpOneIdeal.τ).loc Cert.MlpOneIdeal.main_arg10))
      ∧ θ_run (Cert.MlpOnePlainIdeal.defs (F := Ideal)) (onTc (τ := Cert.MlpOnePlainIdeal.τ) (Cert.MlpOnePlainIdeal.main (F := Ideal))) ⟨m', fun _ => 0, g'⟩ (fun r => ∀ c : Dev Cert.MlpOnePlainIdeal.nD,
          r.2.mem ((c.tc : Thread Cert.MlpOnePlainIdeal.nD Cert.MlpOnePlainIdeal.τ).loc Cert.MlpOnePlainIdeal.main_v0_0) = v0 c
          ∧ r.2.mem ((c.tc : Thread Cert.MlpOnePlainIdeal.nD Cert.MlpOnePlainIdeal.τ).loc Cert.MlpOnePlainIdeal.main_v0_1) = v1 c
          ∧ r.2.mem ((c.tc : Thread Cert.MlpOnePlainIdeal.nD Cert.MlpOnePlainIdeal.τ).loc Cert.MlpOnePlainIdeal.main_v0_2) = v2 c
          ∧ r.2.mem ((c.tc : Thread Cert.MlpOnePlainIdeal.nD Cert.MlpOnePlainIdeal.τ).loc Cert.MlpOnePlainIdeal.main_v0_3) = v3 c
          ∧ r.2.mem ((c.tc : Thread Cert.MlpOnePlainIdeal.nD Cert.MlpOnePlainIdeal.τ).loc Cert.MlpOnePlainIdeal.main_arg0) = m' ((c.tc : Thread Cert.MlpOnePlainIdeal.nD Cert.MlpOnePlainIdeal.τ).loc Cert.MlpOnePlainIdeal.main_arg0)
          ∧ r.2.mem ((c.tc : Thread Cert.MlpOnePlainIdeal.nD Cert.MlpOnePlainIdeal.τ).loc Cert.MlpOnePlainIdeal.main_arg1) = m' ((c.tc : Thread Cert.MlpOnePlainIdeal.nD Cert.MlpOnePlainIdeal.τ).loc Cert.MlpOnePlainIdeal.main_arg1)
          ∧ r.2.mem ((c.tc : Thread Cert.MlpOnePlainIdeal.nD Cert.MlpOnePlainIdeal.τ).loc Cert.MlpOnePlainIdeal.main_arg2) = m' ((c.tc : Thread Cert.MlpOnePlainIdeal.nD Cert.MlpOnePlainIdeal.τ).loc Cert.MlpOnePlainIdeal.main_arg2)
          ∧ r.2.mem ((c.tc : Thread Cert.MlpOnePlainIdeal.nD Cert.MlpOnePlainIdeal.τ).loc Cert.MlpOnePlainIdeal.main_arg3) = m' ((c.tc : Thread Cert.MlpOnePlainIdeal.nD Cert.MlpOnePlainIdeal.τ).loc Cert.MlpOnePlainIdeal.main_arg3)
          ∧ r.2.mem ((c.tc : Thread Cert.MlpOnePlainIdeal.nD Cert.MlpOnePlainIdeal.τ).loc Cert.MlpOnePlainIdeal.main_arg4) = m' ((c.tc : Thread Cert.MlpOnePlainIdeal.nD Cert.MlpOnePlainIdeal.τ).loc Cert.MlpOnePlainIdeal.main_arg4)
          ∧ r.2.mem ((c.tc : Thread Cert.MlpOnePlainIdeal.nD Cert.MlpOnePlainIdeal.τ).loc Cert.MlpOnePlainIdeal.main_arg5) = m' ((c.tc : Thread Cert.MlpOnePlainIdeal.nD Cert.MlpOnePlainIdeal.τ).loc Cert.MlpOnePlainIdeal.main_arg5)
          ∧ r.2.mem ((c.tc : Thread Cert.MlpOnePlainIdeal.nD Cert.MlpOnePlainIdeal.τ).loc Cert.MlpOnePlainIdeal.main_arg6) = m' ((c.tc : Thread Cert.MlpOnePlainIdeal.nD Cert.MlpOnePlainIdeal.τ).loc Cert.MlpOnePlainIdeal.main_arg6)
          ∧ r.2.mem ((c.tc : Thread Cert.MlpOnePlainIdeal.nD Cert.MlpOnePlainIdeal.τ).loc Cert.MlpOnePlainIdeal.main_arg7) = m' ((c.tc : Thread Cert.MlpOnePlainIdeal.nD Cert.MlpOnePlainIdeal.τ).loc Cert.MlpOnePlainIdeal.main_arg7)
          ∧ r.2.mem ((c.tc : Thread Cert.MlpOnePlainIdeal.nD Cert.MlpOnePlainIdeal.τ).loc Cert.MlpOnePlainIdeal.main_arg8) = m' ((c.tc : Thread Cert.MlpOnePlainIdeal.nD Cert.MlpOnePlainIdeal.τ).loc Cert.MlpOnePlainIdeal.main_arg8)
          ∧ r.2.mem ((c.tc : Thread Cert.MlpOnePlainIdeal.nD Cert.MlpOnePlainIdeal.τ).loc Cert.MlpOnePlainIdeal.main_arg9) = m' ((c.tc : Thread Cert.MlpOnePlainIdeal.nD Cert.MlpOnePlainIdeal.τ).loc Cert.MlpOnePlainIdeal.main_arg9)
          ∧ r.2.mem ((c.tc : Thread Cert.MlpOnePlainIdeal.nD Cert.MlpOnePlainIdeal.τ).loc Cert.MlpOnePlainIdeal.main_arg10) = m' ((c.tc : Thread Cert.MlpOnePlainIdeal.nD Cert.MlpOnePlainIdeal.τ).loc Cert.MlpOnePlainIdeal.main_arg10))

def preserves_MlpTwo_MlpTwoIdeal : Prop :=
  True

def algebraic_MlpTwoIdeal_MlpTwoPlainIdeal [hMlpTwoIdeal : Cert.MlpTwoIdeal.Facts] [hMlpTwoPlainIdeal : Cert.MlpTwoPlainIdeal.Facts] : Prop :=
  ∀ (m : (ℓ : Loc Cert.MlpTwoIdeal.nD Cert.MlpTwoIdeal.τ Cert.MlpTwoIdeal.sig) → Buf (Elt Ideal) ℓ) (g : Dev Cert.MlpTwoIdeal.nD → PrngReg)
    (m' : (ℓ : Loc Cert.MlpTwoPlainIdeal.nD Cert.MlpTwoPlainIdeal.τ Cert.MlpTwoPlainIdeal.sig) → Buf (Elt Ideal) ℓ) (g' : Dev Cert.MlpTwoPlainIdeal.nD → PrngReg), Pre_MlpTwoIdeal m →
    (∀ c : Dev Cert.MlpTwoIdeal.nD,
      m' ((c.tc : Thread Cert.MlpTwoPlainIdeal.nD Cert.MlpTwoPlainIdeal.τ).loc Cert.MlpTwoPlainIdeal.main_arg0) = m ((c.tc : Thread Cert.MlpTwoIdeal.nD Cert.MlpTwoIdeal.τ).loc Cert.MlpTwoIdeal.main_arg0)
      ∧ m' ((c.tc : Thread Cert.MlpTwoPlainIdeal.nD Cert.MlpTwoPlainIdeal.τ).loc Cert.MlpTwoPlainIdeal.main_arg1) = m ((c.tc : Thread Cert.MlpTwoIdeal.nD Cert.MlpTwoIdeal.τ).loc Cert.MlpTwoIdeal.main_arg1)
      ∧ m' ((c.tc : Thread Cert.MlpTwoPlainIdeal.nD Cert.MlpTwoPlainIdeal.τ).loc Cert.MlpTwoPlainIdeal.main_arg2) = m ((c.tc : Thread Cert.MlpTwoIdeal.nD Cert.MlpTwoIdeal.τ).loc Cert.MlpTwoIdeal.main_arg2)
      ∧ m' ((c.tc : Thread Cert.MlpTwoPlainIdeal.nD Cert.MlpTwoPlainIdeal.τ).loc Cert.MlpTwoPlainIdeal.main_arg3) = m ((c.tc : Thread Cert.MlpTwoIdeal.nD Cert.MlpTwoIdeal.τ).loc Cert.MlpTwoIdeal.main_arg3)
      ∧ m' ((c.tc : Thread Cert.MlpTwoPlainIdeal.nD Cert.MlpTwoPlainIdeal.τ).loc Cert.MlpTwoPlainIdeal.main_arg4) = m ((c.tc : Thread Cert.MlpTwoIdeal.nD Cert.MlpTwoIdeal.τ).loc Cert.MlpTwoIdeal.main_arg4)
      ∧ m' ((c.tc : Thread Cert.MlpTwoPlainIdeal.nD Cert.MlpTwoPlainIdeal.τ).loc Cert.MlpTwoPlainIdeal.main_arg5) = m ((c.tc : Thread Cert.MlpTwoIdeal.nD Cert.MlpTwoIdeal.τ).loc Cert.MlpTwoIdeal.main_arg5)) →
    ∃ (v0 : (c : Dev Cert.MlpTwoIdeal.nD) → Buf (Elt Ideal) ((c.tc : Thread Cert.MlpTwoIdeal.nD Cert.MlpTwoIdeal.τ).loc Cert.MlpTwoIdeal.main_v0)),
      θ_run (Cert.MlpTwoIdeal.defs (F := Ideal)) (onTc (τ := Cert.MlpTwoIdeal.τ) (Cert.MlpTwoIdeal.main (F := Ideal))) ⟨m, fun _ => 0, g⟩ (fun r => ∀ c : Dev Cert.MlpTwoIdeal.nD,
          r.2.mem ((c.tc : Thread Cert.MlpTwoIdeal.nD Cert.MlpTwoIdeal.τ).loc Cert.MlpTwoIdeal.main_v0) = v0 c
          ∧ r.2.mem ((c.tc : Thread Cert.MlpTwoIdeal.nD Cert.MlpTwoIdeal.τ).loc Cert.MlpTwoIdeal.main_arg0) = m ((c.tc : Thread Cert.MlpTwoIdeal.nD Cert.MlpTwoIdeal.τ).loc Cert.MlpTwoIdeal.main_arg0)
          ∧ r.2.mem ((c.tc : Thread Cert.MlpTwoIdeal.nD Cert.MlpTwoIdeal.τ).loc Cert.MlpTwoIdeal.main_arg1) = m ((c.tc : Thread Cert.MlpTwoIdeal.nD Cert.MlpTwoIdeal.τ).loc Cert.MlpTwoIdeal.main_arg1)
          ∧ r.2.mem ((c.tc : Thread Cert.MlpTwoIdeal.nD Cert.MlpTwoIdeal.τ).loc Cert.MlpTwoIdeal.main_arg2) = m ((c.tc : Thread Cert.MlpTwoIdeal.nD Cert.MlpTwoIdeal.τ).loc Cert.MlpTwoIdeal.main_arg2)
          ∧ r.2.mem ((c.tc : Thread Cert.MlpTwoIdeal.nD Cert.MlpTwoIdeal.τ).loc Cert.MlpTwoIdeal.main_arg3) = m ((c.tc : Thread Cert.MlpTwoIdeal.nD Cert.MlpTwoIdeal.τ).loc Cert.MlpTwoIdeal.main_arg3)
          ∧ r.2.mem ((c.tc : Thread Cert.MlpTwoIdeal.nD Cert.MlpTwoIdeal.τ).loc Cert.MlpTwoIdeal.main_arg4) = m ((c.tc : Thread Cert.MlpTwoIdeal.nD Cert.MlpTwoIdeal.τ).loc Cert.MlpTwoIdeal.main_arg4)
          ∧ r.2.mem ((c.tc : Thread Cert.MlpTwoIdeal.nD Cert.MlpTwoIdeal.τ).loc Cert.MlpTwoIdeal.main_arg5) = m ((c.tc : Thread Cert.MlpTwoIdeal.nD Cert.MlpTwoIdeal.τ).loc Cert.MlpTwoIdeal.main_arg5))
      ∧ θ_run (Cert.MlpTwoPlainIdeal.defs (F := Ideal)) (onTc (τ := Cert.MlpTwoPlainIdeal.τ) (Cert.MlpTwoPlainIdeal.main (F := Ideal))) ⟨m', fun _ => 0, g'⟩ (fun r => ∀ c : Dev Cert.MlpTwoPlainIdeal.nD,
          r.2.mem ((c.tc : Thread Cert.MlpTwoPlainIdeal.nD Cert.MlpTwoPlainIdeal.τ).loc Cert.MlpTwoPlainIdeal.main_v0) = v0 c
          ∧ r.2.mem ((c.tc : Thread Cert.MlpTwoPlainIdeal.nD Cert.MlpTwoPlainIdeal.τ).loc Cert.MlpTwoPlainIdeal.main_arg0) = m' ((c.tc : Thread Cert.MlpTwoPlainIdeal.nD Cert.MlpTwoPlainIdeal.τ).loc Cert.MlpTwoPlainIdeal.main_arg0)
          ∧ r.2.mem ((c.tc : Thread Cert.MlpTwoPlainIdeal.nD Cert.MlpTwoPlainIdeal.τ).loc Cert.MlpTwoPlainIdeal.main_arg1) = m' ((c.tc : Thread Cert.MlpTwoPlainIdeal.nD Cert.MlpTwoPlainIdeal.τ).loc Cert.MlpTwoPlainIdeal.main_arg1)
          ∧ r.2.mem ((c.tc : Thread Cert.MlpTwoPlainIdeal.nD Cert.MlpTwoPlainIdeal.τ).loc Cert.MlpTwoPlainIdeal.main_arg2) = m' ((c.tc : Thread Cert.MlpTwoPlainIdeal.nD Cert.MlpTwoPlainIdeal.τ).loc Cert.MlpTwoPlainIdeal.main_arg2)
          ∧ r.2.mem ((c.tc : Thread Cert.MlpTwoPlainIdeal.nD Cert.MlpTwoPlainIdeal.τ).loc Cert.MlpTwoPlainIdeal.main_arg3) = m' ((c.tc : Thread Cert.MlpTwoPlainIdeal.nD Cert.MlpTwoPlainIdeal.τ).loc Cert.MlpTwoPlainIdeal.main_arg3)
          ∧ r.2.mem ((c.tc : Thread Cert.MlpTwoPlainIdeal.nD Cert.MlpTwoPlainIdeal.τ).loc Cert.MlpTwoPlainIdeal.main_arg4) = m' ((c.tc : Thread Cert.MlpTwoPlainIdeal.nD Cert.MlpTwoPlainIdeal.τ).loc Cert.MlpTwoPlainIdeal.main_arg4)
          ∧ r.2.mem ((c.tc : Thread Cert.MlpTwoPlainIdeal.nD Cert.MlpTwoPlainIdeal.τ).loc Cert.MlpTwoPlainIdeal.main_arg5) = m' ((c.tc : Thread Cert.MlpTwoPlainIdeal.nD Cert.MlpTwoPlainIdeal.τ).loc Cert.MlpTwoPlainIdeal.main_arg5))

def preserves_Attn_AttnIdeal : Prop :=
  True

def Claim : Prop :=
  ∃ (hQkv : Cert.Qkv.Facts) (hQkvIdeal : Cert.QkvIdeal.Facts) (hQkvPlainIdeal : Cert.QkvPlainIdeal.Facts) (hMlpOne : Cert.MlpOne.Facts) (hMlpOneIdeal : Cert.MlpOneIdeal.Facts) (hMlpOnePlainIdeal : Cert.MlpOnePlainIdeal.Facts) (hMlpTwo : Cert.MlpTwo.Facts) (hMlpTwoIdeal : Cert.MlpTwoIdeal.Facts) (hMlpTwoPlainIdeal : Cert.MlpTwoPlainIdeal.Facts) (hAttn : Cert.Attn.Facts) (hAttnIdeal : Cert.AttnIdeal.Facts),
    quiescent_Qkv (hQkv := hQkv)
    ∧ quiescent_QkvIdeal (hQkvIdeal := hQkvIdeal)
    ∧ quiescent_QkvPlainIdeal (hQkvPlainIdeal := hQkvPlainIdeal)
    ∧ quiescent_MlpOne (hMlpOne := hMlpOne)
    ∧ quiescent_MlpOneIdeal (hMlpOneIdeal := hMlpOneIdeal)
    ∧ quiescent_MlpOnePlainIdeal (hMlpOnePlainIdeal := hMlpOnePlainIdeal)
    ∧ quiescent_MlpTwo (hMlpTwo := hMlpTwo)
    ∧ quiescent_MlpTwoIdeal (hMlpTwoIdeal := hMlpTwoIdeal)
    ∧ quiescent_MlpTwoPlainIdeal (hMlpTwoPlainIdeal := hMlpTwoPlainIdeal)
    ∧ quiescent_Attn (hAttn := hAttn)
    ∧ quiescent_AttnIdeal (hAttnIdeal := hAttnIdeal)
    ∧ preserves_Qkv_QkvIdeal
    ∧ algebraic_QkvIdeal_QkvPlainIdeal (hQkvIdeal := hQkvIdeal) (hQkvPlainIdeal := hQkvPlainIdeal)
    ∧ preserves_MlpOne_MlpOneIdeal
    ∧ algebraic_MlpOneIdeal_MlpOnePlainIdeal (hMlpOneIdeal := hMlpOneIdeal) (hMlpOnePlainIdeal := hMlpOnePlainIdeal)
    ∧ preserves_MlpTwo_MlpTwoIdeal
    ∧ algebraic_MlpTwoIdeal_MlpTwoPlainIdeal (hMlpTwoIdeal := hMlpTwoIdeal) (hMlpTwoPlainIdeal := hMlpTwoPlainIdeal)
    ∧ preserves_Attn_AttnIdeal
-- ==== Qkv.lean ====
abbrev S8192x5120 : Shape := ⟨2, ![8192, 5120]⟩
abbrev S1x5120 : Shape := ⟨2, ![1, 5120]⟩
abbrev S5120x1792 : Shape := ⟨2, ![5120, 1792]⟩
abbrev S1x1792 : Shape := ⟨2, ![1, 1792]⟩
abbrev S8192x1280 : Shape := ⟨2, ![8192, 1280]⟩
abbrev S8192x256 : Shape := ⟨2, ![8192, 256]⟩
abbrev S256x8192 : Shape := ⟨2, ![256, 8192]⟩
abbrev S16x8192 : Shape := ⟨2, ![16, 8192]⟩
abbrev S256x5120 : Shape := ⟨2, ![256, 5120]⟩
abbrev S256x1280 : Shape := ⟨2, ![256, 1280]⟩
abbrev S256x256 : Shape := ⟨2, ![256, 256]⟩
abbrev S16x256 : Shape := ⟨2, ![16, 256]⟩
abbrev S256 : Shape := ⟨1, ![256]⟩
abbrev S256x1 : Shape := ⟨2, ![256, 1]⟩
abbrev S5120x256 : Shape := ⟨2, ![5120, 256]⟩
abbrev S256x128 : Shape := ⟨2, ![256, 128]⟩
abbrev S1x128 : Shape := ⟨2, ![1, 128]⟩
abbrev S128x256 : Shape := ⟨2, ![128, 256]⟩

abbrev nBuf : Space → Nat
  | .hbm => 13
  | .vmem => 21
  | .smem => 0
  | _ => 0

abbrev bufTy : (tb : Table) → Fin (tcTables nBuf tb) → BufTy
  | .hbm, ⟨0, _⟩ => ⟨S8192x5120, .bf16⟩
  | .hbm, ⟨1, _⟩ => ⟨S1x5120, .f32⟩
  | .hbm, ⟨2, _⟩ => ⟨S1x5120, .f32⟩
  | .hbm, ⟨3, _⟩ => ⟨S5120x1792, .fp8e4m3⟩
  | .hbm, ⟨4, _⟩ => ⟨S1x1792, .f32⟩
  | .hbm, ⟨5, _⟩ => ⟨S1x1792, .f32⟩
  | .hbm, ⟨6, _⟩ => ⟨S8192x5120, .fp8e4m3⟩
  | .hbm, ⟨7, _⟩ => ⟨S8192x1280, .fp8e4m3⟩
  | .hbm, ⟨8, _⟩ => ⟨S8192x256, .fp8e4m3⟩
  | .hbm, ⟨9, _⟩ => ⟨S8192x256, .fp8e4m3⟩
  | .hbm, ⟨10, _⟩ => ⟨S256x8192, .bf16⟩
  | .hbm, ⟨11, _⟩ => ⟨S8192x256, .f32⟩
  | .hbm, ⟨12, _⟩ => ⟨S16x8192, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S1x5120, .f32⟩
  | .local _ .vmem, ⟨4, _⟩ => ⟨S5120x1792, .fp8e4m3⟩
  | .local _ .vmem, ⟨5, _⟩ => ⟨S1x1792, .f32⟩
  | .local _ .vmem, ⟨6, _⟩ => ⟨S1x1792, .f32⟩
  | .local _ .vmem, ⟨7, _⟩ => ⟨S256x5120, .fp8e4m3⟩
  | .local _ .vmem, ⟨8, _⟩ => ⟨S256x5120, .fp8e4m3⟩
  | .local _ .vmem, ⟨9, _⟩ => ⟨S256x1280, .fp8e4m3⟩
  | .local _ .vmem, ⟨10, _⟩ => ⟨S256x1280, .fp8e4m3⟩
  | .local _ .vmem, ⟨11, _⟩ => ⟨S256x256, .fp8e4m3⟩
  | .local _ .vmem, ⟨12, _⟩ => ⟨S256x256, .fp8e4m3⟩
  | .local _ .vmem, ⟨13, _⟩ => ⟨S256x256, .fp8e4m3⟩
  | .local _ .vmem, ⟨14, _⟩ => ⟨S256x256, .fp8e4m3⟩
  | .local _ .vmem, ⟨15, _⟩ => ⟨S256x256, .bf16⟩
  | .local _ .vmem, ⟨16, _⟩ => ⟨S256x256, .bf16⟩
  | .local _ .vmem, ⟨17, _⟩ => ⟨S256x256, .f32⟩
  | .local _ .vmem, ⟨18, _⟩ => ⟨S256x256, .f32⟩
  | .local _ .vmem, ⟨19, _⟩ => ⟨S16x256, .f32⟩
  | .local _ .vmem, ⟨20, _⟩ => ⟨S16x256, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvPlainIdeal.lean ====
abbrev S8192x5120 : Shape := ⟨2, ![8192, 5120]⟩
abbrev S1x5120 : Shape := ⟨2, ![1, 5120]⟩
abbrev S5120x1792 : Shape := ⟨2, ![5120, 1792]⟩
abbrev S1x1792 : Shape := ⟨2, ![1, 1792]⟩
abbrev S8192x1280 : Shape := ⟨2, ![8192, 1280]⟩
abbrev S8192x256 : Shape := ⟨2, ![8192, 256]⟩
abbrev S256x8192 : Shape := ⟨2, ![256, 8192]⟩
abbrev S16x8192 : Shape := ⟨2, ![16, 8192]⟩
abbrev S8192 : Shape := ⟨1, ![8192]⟩
abbrev S8192x1 : Shape := ⟨2, ![8192, 1]⟩
abbrev S8192x1792 : Shape := ⟨2, ![8192, 1792]⟩
abbrev S8192x14x128 : Shape := ⟨3, ![8192, 14, 128]⟩
abbrev S8192x14 : Shape := ⟨2, ![8192, 14]⟩
abbrev S8192x14x1 : Shape := ⟨3, ![8192, 14, 1]⟩
abbrev S8192x10x128 : Shape := ⟨3, ![8192, 10, 128]⟩
abbrev S8192x2x128 : Shape := ⟨3, ![8192, 2, 128]⟩
abbrev S8192x2x1 : Shape := ⟨3, ![8192, 2, 1]⟩
abbrev S8192x15 : Shape := ⟨2, ![8192, 15]⟩
abbrev S8192x16 : Shape := ⟨2, ![8192, 16]⟩

abbrev nBuf : Space → Nat
  | .hbm => 13
  | .vmem => 13
  | .smem => 0
  | _ => 0

abbrev bufTy : (tb : Table) → Fin (tcTables nBuf tb) → BufTy
  | .hbm, ⟨0, _⟩ => ⟨S8192x5120, .bf16⟩
  | .hbm, ⟨1, _⟩ => ⟨S1x5120, .f32⟩
  | .hbm, ⟨2, _⟩ => ⟨S1x5120, .f32⟩
  | .hbm, ⟨3, _⟩ => ⟨S5120x1792, .fp8e4m3⟩
  | .hbm, ⟨4, _⟩ => ⟨S1x1792, .f32⟩
  | .hbm, ⟨5, _⟩ => ⟨S1x1792, .f32⟩
  | .hbm, ⟨6, _⟩ => ⟨S8192x5120, .fp8e4m3⟩
  | .hbm, ⟨7, _⟩ => ⟨S8192x1280, .fp8e4m3⟩
  | .hbm, ⟨8, _⟩ => ⟨S8192x256, .fp8e4m3⟩
  | .hbm, ⟨9, _⟩ => ⟨S8192x256, .fp8e4m3⟩
  | .hbm, ⟨10, _⟩ => ⟨S256x8192, .bf16⟩
  | .hbm, ⟨11, _⟩ => ⟨S8192x256, .f32⟩
  | .hbm, ⟨12, _⟩ => ⟨S16x8192, .f32⟩
  | .local _ .vmem, ⟨0, _⟩ => ⟨S8192x5120, .bf16⟩
  | .local _ .vmem, ⟨1, _⟩ => ⟨S1x5120, .f32⟩
  | .local _ .vmem, ⟨2, _⟩ => ⟨S1x5120, .f32⟩
  | .local _ .vmem, ⟨3, _⟩ => ⟨S5120x1792, .fp8e4m3⟩
  | .local _ .vmem, ⟨4, _⟩ => ⟨S1x1792, .f32⟩
  | .local _ .vmem, ⟨5, _⟩ => ⟨S1x1792, .f32⟩
  | .local _ .vmem, ⟨6, _⟩ => ⟨S8192x5120, .fp8e4m3⟩
  | .local _ .vmem, ⟨7, _⟩ => ⟨S8192x1280, .fp8e4m3⟩
  | .local _ .vmem, ⟨8, _⟩ => ⟨S8192x256, .fp8e4m3⟩
  | .local _ .vmem, ⟨9, _⟩ => ⟨S8192x256, .fp8e4m3⟩
  | .local _ .vmem, ⟨10, _⟩ => ⟨S256x8192, .bf16⟩
  | .local _ .vmem, ⟨11, _⟩ => ⟨S8192x256, .f32⟩
  | .local _ .vmem, ⟨12, _⟩ => ⟨S16x8192, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== MlpOne.lean ====
abbrev S8192x5120 : Shape := ⟨2, ![8192, 5120]⟩
abbrev S8192x1280 : Shape := ⟨2, ![8192, 1280]⟩
abbrev S16x8192 : Shape := ⟨2, ![16, 8192]⟩
abbrev S1280x5120 : Shape := ⟨2, ![1280, 5120]⟩
abbrev S1x5120 : Shape := ⟨2, ![1, 5120]⟩
abbrev S5120x3456 : Shape := ⟨2, ![5120, 3456]⟩
abbrev S1x3456 : Shape := ⟨2, ![1, 3456]⟩
abbrev S8192x3456 : Shape := ⟨2, ![8192, 3456]⟩
abbrev S256x5120 : Shape := ⟨2, ![256, 5120]⟩
abbrev S256x1280 : Shape := ⟨2, ![256, 1280]⟩
abbrev S16x256 : Shape := ⟨2, ![16, 256]⟩
abbrev S256x3456 : Shape := ⟨2, ![256, 3456]⟩
abbrev S256x16 : Shape := ⟨2, ![256, 16]⟩
abbrev S256x1 : Shape := ⟨2, ![256, 1]⟩
abbrev S1280x512 : Shape := ⟨2, ![1280, 512]⟩
abbrev S256x512 : Shape := ⟨2, ![256, 512]⟩
abbrev S1x512 : Shape := ⟨2, ![1, 512]⟩
abbrev S256 : Shape := ⟨1, ![256]⟩
abbrev S5120x512 : Shape := ⟨2, ![5120, 512]⟩
abbrev S5120x384 : Shape := ⟨2, ![5120, 384]⟩
abbrev S256x384 : Shape := ⟨2, ![256, 384]⟩
abbrev S1x384 : Shape := ⟨2, ![1, 384]⟩
abbrev S256x128 : Shape := ⟨2, ![256, 128]⟩
abbrev S128x256 : Shape := ⟨2, ![128, 256]⟩

abbrev nBuf : Space → Nat
  | .hbm => 15
  | .vmem => 23
  | .smem => 0
  | _ => 0

abbrev bufTy : (tb : Table) → Fin (tcTables nBuf tb) → BufTy
  | .hbm, ⟨0, _⟩ => ⟨S8192x5120, .bf16⟩
  | .hbm, ⟨1, _⟩ => ⟨S8192x1280, .fp8e4m3⟩
  | .hbm, ⟨2, _⟩ => ⟨S16x8192, .f32⟩
  | .hbm, ⟨3, _⟩ => ⟨S1280x5120, .fp8e4m3⟩
  | .hbm, ⟨4, _⟩ => ⟨S1x5120, .f32⟩
  | .hbm, ⟨5, _⟩ => ⟨S1x5120, .f32⟩
  | .hbm, ⟨6, _⟩ => ⟨S1x5120, .f32⟩
  | .hbm, ⟨7, _⟩ => ⟨S1x5120, .f32⟩
  | .hbm, ⟨8, _⟩ => ⟨S5120x3456, .fp8e4m3⟩
  | .hbm, ⟨9, _⟩ => ⟨S1x3456, .f32⟩
  | .hbm, ⟨10, _⟩ => ⟨S1x3456, .f32⟩
  | .hbm, ⟨11, _⟩ => ⟨S8192x5120, .f32⟩
  | .hbm, ⟨12, _⟩ => ⟨S8192x5120, .fp8e4m3⟩
  | .hbm, ⟨13, _⟩ => ⟨S8192x3456, .fp8e4m3⟩
  | .hbm, ⟨14, _⟩ => ⟨S16x8192, .f32⟩
  | .local _ .vmem, ⟨0, _⟩ => ⟨S256x5120, .bf16⟩
  | .local _ .vmem, ⟨1, _⟩ => ⟨S256x5120, .bf16⟩
  | .local _ .vmem, ⟨2, _⟩ => ⟨S256x1280, .fp8e4m3⟩
  | .local _ .vmem, ⟨3, _⟩ => ⟨S256x1280, .fp8e4m3⟩
  | .local _ .vmem, ⟨4, _⟩ => ⟨S16x256, .f32⟩
  | .local _ .vmem, ⟨5, _⟩ => ⟨S16x256, .f32⟩
  | .local _ .vmem, ⟨6, _⟩ => ⟨S1280x5120, .fp8e4m3⟩
  | .local _ .vmem, ⟨7, _⟩ => ⟨S1x5120, .f32⟩
  | .local _ .vmem, ⟨8, _⟩ => ⟨S1x5120, .f32⟩
  | .local _ .vmem, ⟨9, _⟩ => ⟨S1x5120, .f32⟩
  | .local _ .vmem, ⟨10, _⟩ => ⟨S1x5120, .f32⟩
  | .local _ .vmem, ⟨11, _⟩ => ⟨S5120x3456, .fp8e4m3⟩
  | .local _ .vmem, ⟨12, _⟩ => ⟨S1x3456, .f32⟩
  | .local _ .vmem, ⟨13, _⟩ => ⟨S1x3456, .f32⟩
  | .local _ .vmem, ⟨14, _⟩ => ⟨S256x5120, .f32⟩
  | .local _ .vmem, ⟨15, _⟩ => ⟨S256x5120, .f32⟩
  | .local _ .vmem, ⟨16, _⟩ => ⟨S256x5120, .fp8e4m3⟩
  | .local _ .vmem, ⟨17, _⟩ => ⟨S256x5120, .fp8e4m3⟩
  | .local _ .vmem, ⟨18, _⟩ => ⟨S256x3456, .fp8e4m3⟩
  | .local _ .vmem, ⟨19, _⟩ => ⟨S256x3456, .fp8e4m3⟩
  | .local _ .vmem, ⟨20, _⟩ => ⟨S16x256, .f32⟩
  | .local _ .vmem, ⟨21, _⟩ => ⟨S16x256, .f32⟩
  | .local _ .vmem, ⟨22, _⟩ => ⟨S256x3456, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5120x3456 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3456 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3456 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3456 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlpOnePlainIdeal.lean ====
abbrev S8192x5120 : Shape := ⟨2, ![8192, 5120]⟩
abbrev S8192x1280 : Shape := ⟨2, ![8192, 1280]⟩
abbrev S16x8192 : Shape := ⟨2, ![16, 8192]⟩
abbrev S1280x5120 : Shape := ⟨2, ![1280, 5120]⟩
abbrev S1x5120 : Shape := ⟨2, ![1, 5120]⟩
abbrev S5120x3456 : Shape := ⟨2, ![5120, 3456]⟩
abbrev S1x3456 : Shape := ⟨2, ![1, 3456]⟩
abbrev S8192x3456 : Shape := ⟨2, ![8192, 3456]⟩
abbrev S1x8192 : Shape := ⟨2, ![1, 8192]⟩
abbrev S8192x1 : Shape := ⟨2, ![8192, 1]⟩
abbrev S8192 : Shape := ⟨1, ![8192]⟩
abbrev S8192x2 : Shape := ⟨2, ![8192, 2]⟩
abbrev S8192x14 : Shape := ⟨2, ![8192, 14]⟩
abbrev S8192x16 : Shape := ⟨2, ![8192, 16]⟩

abbrev nBuf : Space → Nat
  | .hbm => 15
  | .vmem => 15
  | .smem => 0
  | _ => 0

abbrev bufTy : (tb : Table) → Fin (tcTables nBuf tb) → BufTy
  | .hbm, ⟨0, _⟩ => ⟨S8192x5120, .bf16⟩
  | .hbm, ⟨1, _⟩ => ⟨S8192x1280, .fp8e4m3⟩
  | .hbm, ⟨2, _⟩ => ⟨S16x8192, .f32⟩
  | .hbm, ⟨3, _⟩ => ⟨S1280x5120, .fp8e4m3⟩
  | .hbm, ⟨4, _⟩ => ⟨S1x5120, .f32⟩
  | .hbm, ⟨5, _⟩ => ⟨S1x5120, .f32⟩
  | .hbm, ⟨6, _⟩ => ⟨S1x5120, .f32⟩
  | .hbm, ⟨7, _⟩ => ⟨S1x5120, .f32⟩
  | .hbm, ⟨8, _⟩ => ⟨S5120x3456, .fp8e4m3⟩
  | .hbm, ⟨9, _⟩ => ⟨S1x3456, .f32⟩
  | .hbm, ⟨10, _⟩ => ⟨S1x3456, .f32⟩
  | .hbm, ⟨11, _⟩ => ⟨S8192x5120, .f32⟩
  | .hbm, ⟨12, _⟩ => ⟨S8192x5120, .fp8e4m3⟩
  | .hbm, ⟨13, _⟩ => ⟨S8192x3456, .fp8e4m3⟩
  | .hbm, ⟨14, _⟩ => ⟨S16x8192, .f32⟩
  | .local _ .vmem, ⟨0, _⟩ => ⟨S8192x5120, .bf16⟩
  | .local _ .vmem, ⟨1, _⟩ => ⟨S8192x1280, .fp8e4m3⟩
  | .local _ .vmem, ⟨2, _⟩ => ⟨S16x8192, .f32⟩
  | .local _ .vmem, ⟨3, _⟩ => ⟨S1280x5120, .fp8e4m3⟩
  | .local _ .vmem, ⟨4, _⟩ => ⟨S1x5120, .f32⟩
  | .local _ .vmem, ⟨5, _⟩ => ⟨S1x5120, .f32⟩
  | .local _ .vmem, ⟨6, _⟩ => ⟨S1x5120, .f32⟩
  | .local _ .vmem, ⟨7, _⟩ => ⟨S1x5120, .f32⟩
  | .local _ .vmem, ⟨8, _⟩ => ⟨S5120x3456, .fp8e4m3⟩
  | .local _ .vmem, ⟨9, _⟩ => ⟨S1x3456, .f32⟩
  | .local _ .vmem, ⟨10, _⟩ => ⟨S1x3456, .f32⟩
  | .local _ .vmem, ⟨11, _⟩ => ⟨S8192x5120, .f32⟩
  | .local _ .vmem, ⟨12, _⟩ => ⟨S8192x5120, .fp8e4m3⟩
  | .local _ .vmem, ⟨13, _⟩ => ⟨S8192x3456, .fp8e4m3⟩
  | .local _ .vmem, ⟨14, _⟩ => ⟨S16x8192, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x3456 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3456 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3456 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x3456 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== MlpTwo.lean ====
abbrev S8192x5120 : Shape := ⟨2, ![8192, 5120]⟩
abbrev S8192x3456 : Shape := ⟨2, ![8192, 3456]⟩
abbrev S16x8192 : Shape := ⟨2, ![16, 8192]⟩
abbrev S3456x5120 : Shape := ⟨2, ![3456, 5120]⟩
abbrev S1x5120 : Shape := ⟨2, ![1, 5120]⟩
abbrev S256x5120 : Shape := ⟨2, ![256, 5120]⟩
abbrev S256x3456 : Shape := ⟨2, ![256, 3456]⟩
abbrev S16x256 : Shape := ⟨2, ![16, 256]⟩
abbrev S256x16 : Shape := ⟨2, ![256, 16]⟩
abbrev S256x1 : Shape := ⟨2, ![256, 1]⟩
abbrev S3456x512 : Shape := ⟨2, ![3456, 512]⟩
abbrev S256x512 : Shape := ⟨2, ![256, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x5120, .f32⟩
  | .hbm, ⟨1, _⟩ => ⟨S8192x3456, .fp8e4m3⟩
  | .hbm, ⟨2, _⟩ => ⟨S16x8192, .f32⟩
  | .hbm, ⟨3, _⟩ => ⟨S3456x5120, .fp8e4m3⟩
  | .hbm, ⟨4, _⟩ => ⟨S1x5120, .f32⟩
  | .hbm, ⟨5, _⟩ => ⟨S1x5120, .f32⟩
  | .hbm, ⟨6, _⟩ => ⟨S8192x5120, .bf16⟩
  | .local _ .vmem, ⟨0, _⟩ => ⟨S256x5120, .f32⟩
  | .local _ .vmem, ⟨1, _⟩ => ⟨S256x5120, .f32⟩
  | .local _ .vmem, ⟨2, _⟩ => ⟨S256x3456, .fp8e4m3⟩
  | .local _ .vmem, ⟨3, _⟩ => ⟨S256x3456, .fp8e4m3⟩
  | .local _ .vmem, ⟨4, _⟩ => ⟨S16x256, .f32⟩
  | .local _ .vmem, ⟨5, _⟩ => ⟨S16x256, .f32⟩
  | .local _ .vmem, ⟨6, _⟩ => ⟨S3456x5120, .fp8e4m3⟩
  | .local _ .vmem, ⟨7, _⟩ => ⟨S1x5120, .f32⟩
  | .local _ .vmem, ⟨8, _⟩ => ⟨S1x5120, .f32⟩
  | .local _ .vmem, ⟨9, _⟩ => ⟨S256x5120, .bf16⟩
  | .local _ .vmem, ⟨10, _⟩ => ⟨S256x5120, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3456 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3456x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpTwoPlainIdeal.lean ====
abbrev S8192x5120 : Shape := ⟨2, ![8192, 5120]⟩
abbrev S8192x3456 : Shape := ⟨2, ![8192, 3456]⟩
abbrev S16x8192 : Shape := ⟨2, ![16, 8192]⟩
abbrev S3456x5120 : Shape := ⟨2, ![3456, 5120]⟩
abbrev S1x5120 : Shape := ⟨2, ![1, 5120]⟩
abbrev S1x8192 : Shape := ⟨2, ![1, 8192]⟩
abbrev S8192x1 : Shape := ⟨2, ![8192, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x5120, .f32⟩
  | .hbm, ⟨1, _⟩ => ⟨S8192x3456, .fp8e4m3⟩
  | .hbm, ⟨2, _⟩ => ⟨S16x8192, .f32⟩
  | .hbm, ⟨3, _⟩ => ⟨S3456x5120, .fp8e4m3⟩
  | .hbm, ⟨4, _⟩ => ⟨S1x5120, .f32⟩
  | .hbm, ⟨5, _⟩ => ⟨S1x5120, .f32⟩
  | .hbm, ⟨6, _⟩ => ⟨S8192x5120, .bf16⟩
  | .local _ .vmem, ⟨0, _⟩ => ⟨S8192x5120, .f32⟩
  | .local _ .vmem, ⟨1, _⟩ => ⟨S8192x3456, .fp8e4m3⟩
  | .local _ .vmem, ⟨2, _⟩ => ⟨S16x8192, .f32⟩
  | .local _ .vmem, ⟨3, _⟩ => ⟨S3456x5120, .fp8e4m3⟩
  | .local _ .vmem, ⟨4, _⟩ => ⟨S1x5120, .f32⟩
  | .local _ .vmem, ⟨5, _⟩ => ⟨S1x5120, .f32⟩
  | .local _ .vmem, ⟨6, _⟩ => ⟨S8192x5120, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3456 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3456x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Attn.lean ====
abbrev S8192x1280 : Shape := ⟨2, ![8192, 1280]⟩
abbrev S16x8192 : Shape := ⟨2, ![16, 8192]⟩
abbrev S8192x256 : Shape := ⟨2, ![8192, 256]⟩
abbrev S256x8192 : Shape := ⟨2, ![256, 8192]⟩
abbrev S512x1280 : Shape := ⟨2, ![512, 1280]⟩
abbrev S16x512 : Shape := ⟨2, ![16, 512]⟩
abbrev S8192x512 : Shape := ⟨2, ![8192, 512]⟩
abbrev S16x8x512 : Shape := ⟨3, ![16, 8, 512]⟩
abbrev S512x128 : Shape := ⟨2, ![512, 128]⟩
abbrev S1x512 : Shape := ⟨2, ![1, 512]⟩
abbrev S512x512 : Shape := ⟨2, ![512, 512]⟩
abbrev S512 : Shape := ⟨1, ![512]⟩
abbrev S8x512 : Shape := ⟨2, ![8, 512]⟩
abbrev S1x8x512 : Shape := ⟨3, ![1, 8, 512]⟩
abbrev S128x512 : Shape := ⟨2, ![128, 512]⟩
abbrev S1x1x512 : Shape := ⟨3, ![1, 1, 512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x1280, .fp8e4m3⟩
  | .hbm, ⟨1, _⟩ => ⟨S16x8192, .f32⟩
  | .hbm, ⟨2, _⟩ => ⟨S8192x256, .fp8e4m3⟩
  | .hbm, ⟨3, _⟩ => ⟨S8192x256, .f32⟩
  | .hbm, ⟨4, _⟩ => ⟨S256x8192, .bf16⟩
  | .hbm, ⟨5, _⟩ => ⟨S8192x1280, .fp8e4m3⟩
  | .hbm, ⟨6, _⟩ => ⟨S16x8192, .f32⟩
  | .local _ .vmem, ⟨0, _⟩ => ⟨S512x1280, .fp8e4m3⟩
  | .local _ .vmem, ⟨1, _⟩ => ⟨S512x1280, .fp8e4m3⟩
  | .local _ .vmem, ⟨2, _⟩ => ⟨S16x512, .f32⟩
  | .local _ .vmem, ⟨3, _⟩ => ⟨S16x512, .f32⟩
  | .local _ .vmem, ⟨4, _⟩ => ⟨S8192x256, .fp8e4m3⟩
  | .local _ .vmem, ⟨5, _⟩ => ⟨S8192x256, .f32⟩
  | .local _ .vmem, ⟨6, _⟩ => ⟨S256x8192, .bf16⟩
  | .local _ .vmem, ⟨7, _⟩ => ⟨S512x1280, .fp8e4m3⟩
  | .local _ .vmem, ⟨8, _⟩ => ⟨S512x1280, .fp8e4m3⟩
  | .local _ .vmem, ⟨9, _⟩ => ⟨S16x512, .f32⟩
  | .local _ .vmem, ⟨10, _⟩ => ⟨S16x512, .f32⟩
  | .local _ .vmem, ⟨11, _⟩ => ⟨S512x1280, .f32⟩
  | .local _ .vmem, ⟨12, _⟩ => ⟨S8192x512, .f32⟩
  | .local _ .vmem, ⟨13, _⟩ => ⟨S16x8x512, .f32⟩
  | _, _ => ⟨S8192x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v209 : BitVec 32 := Scalar.muli arg11 c512_i32
  v209
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v232 : Index := Scalar.indexCast arg11
  let c0_188 : Index := 0#32
  let c0_189 : Index := 0#32
  ![v232.toNat, 0, 0]
@[reducible] def k0_t2_loop : Scf.Loop 32 :=
  let c0_i32_7 : BitVec 32 := 0#32
  let c16_i32_8 : BitVec 32 := 16#32
  let v11 : BitVec 32 := Scalar.addi c0_i32_7 c16_i32_8
  let c1_i32_9 : BitVec 32 := 1#32
  ⟨c0_i32_7, v11, c1_i32_9⟩
def k0_mult2 (k0_t2 : Fin k0_t2_loop.trips) : BitVec 32 :=
  let c0_i32_7 : BitVec 32 := 0#32
  let c1_i32_9 : BitVec 32 := 1#32
  let arg11 : BitVec 32 := Scf.iv c0_i32_7 c1_i32_9 k0_t2
  let c512_i32 : BitVec 32 := 512#32
  let v209 : BitVec 32 := Scalar.muli arg11 c512_i32
  v209
def k0_off4 (k0_t2 : Fin k0_t2_loop.trips) : Fin 2 → Nat :=
  let c0_i32_7 : BitVec 32 := 0#32
  let c1_i32_9 : BitVec 32 := 1#32
  let arg11 : BitVec 32 := Scf.iv c0_i32_7 c1_i32_9 k0_t2
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off5 (k0_t2 : Fin k0_t2_loop.trips) : Fin 3 → Nat :=
  let c0_i32_7 : BitVec 32 := 0#32
  let c1_i32_9 : BitVec 32 := 1#32
  let arg11 : BitVec 32 := Scf.iv c0_i32_7 c1_i32_9 k0_t2
  let v213 : Index := Scalar.indexCast arg11
  let c0_184 : Index := 0#32
  let c0_185 : Index := 0#32
  ![v213.toNat, 0, 0]
def k0_off6 (k0_t2 : Fin k0_t2_loop.trips) : Fin 2 → Nat :=
  let c0_186 : Index := 0#32
  let c0_i32_7 : BitVec 32 := 0#32
  let c1_i32_9 : BitVec 32 := 1#32
  let arg11 : BitVec 32 := Scf.iv c0_i32_7 c1_i32_9 k0_t2
  let c512_i32 : BitVec 32 := 512#32
  let v209 : BitVec 32 := Scalar.muli arg11 c512_i32
  let v210 : BitVec 32 := v209
  let v221 : Index := Scalar.indexCast v210
  ![0, v221.toNat]
@[reducible] def k0_t3_loop : Scf.Loop 32 :=
  let c0_i32_18 : BitVec 32 := 0#32
  let c16_i32_19 : BitVec 32 := 16#32
  let v23 : BitVec 32 := Scalar.addi c0_i32_18 c16_i32_19
  let c1_i32_20 : BitVec 32 := 1#32
  ⟨c0_i32_18, v23, c1_i32_20⟩
def k0_mult3 (k0_t3 : Fin k0_t3_loop.trips) : BitVec 32 :=
  let c0_i32_18 : BitVec 32 := 0#32
  let c1_i32_20 : BitVec 32 := 1#32
  let arg11 : BitVec 32 := Scf.iv c0_i32_18 c1_i32_20 k0_t3
  let c512_i32 : BitVec 32 := 512#32
  let v209 : BitVec 32 := Scalar.muli arg11 c512_i32
  v209
def k0_off7 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off8 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off9 (k0_t3 : Fin k0_t3_loop.trips) : Fin 3 → Nat :=
  let c0_i32_18 : BitVec 32 := 0#32
  let c1_i32_20 : BitVec 32 := 1#32
  let arg11 : BitVec 32 := Scf.iv c0_i32_18 c1_i32_20 k0_t3
  let v232 : Index := Scalar.indexCast arg11
  let c0_188 : Index := 0#32
  let c0_189 : Index := 0#32
  ![v232.toNat, 0, 0]
@[reducible] def k0_t4_loop : Scf.Loop 32 :=
  let c0_i32_24 : BitVec 32 := 0#32
  let c16_i32_25 : BitVec 32 := 16#32
  let v28 : BitVec 32 := Scalar.addi c0_i32_24 c16_i32_25
  let c1_i32_26 : BitVec 32 := 1#32
  ⟨c0_i32_24, v28, c1_i32_26⟩
def k0_mult4 (k0_t4 : Fin k0_t4_loop.trips) : BitVec 32 :=
  let c0_i32_24 : BitVec 32 := 0#32
  let c1_i32_26 : BitVec 32 := 1#32
  let arg11 : BitVec 32 := Scf.iv c0_i32_24 c1_i32_26 k0_t4
  let c512_i32 : BitVec 32 := 512#32
  let v209 : BitVec 32 := Scalar.muli arg11 c512_i32
  v209
def k0_off10 (k0_t4 : Fin k0_t4_loop.trips) : Fin 2 → Nat :=
  let c0_i32_24 : BitVec 32 := 0#32
  let c1_i32_26 : BitVec 32 := 1#32
  let arg11 : BitVec 32 := Scf.iv c0_i32_24 c1_i32_26 k0_t4
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off11 (k0_t4 : Fin k0_t4_loop.trips) : Fin 3 → Nat :=
  let c0_i32_24 : BitVec 32 := 0#32
  let c1_i32_26 : BitVec 32 := 1#32
  let arg11 : BitVec 32 := Scf.iv c0_i32_24 c1_i32_26 k0_t4
  let v213 : Index := Scalar.indexCast arg11
  let c0_184 : Index := 0#32
  let c0_185 : Index := 0#32
  ![v213.toNat, 0, 0]
def k0_off12 (k0_t4 : Fin k0_t4_loop.trips) : Fin 2 → Nat :=
  let c0_186 : Index := 0#32
  let c0_i32_24 : BitVec 32 := 0#32
  let c1_i32_26 : BitVec 32 := 1#32
  let arg11 : BitVec 32 := Scf.iv c0_i32_24 c1_i32_26 k0_t4
  let c512_i32 : BitVec 32 := 512#32
  let v209 : BitVec 32 := Scalar.muli arg11 c512_i32
  let v210 : BitVec 32 := v209
  let v221 : Index := Scalar.indexCast v210
  ![0, v221.toNat]
@[reducible] def k0_t5_loop : Scf.Loop 32 :=
  let c0_i32_35 : BitVec 32 := 0#32
  let c16_i32_36 : BitVec 32 := 16#32
  let v40 : BitVec 32 := Scalar.addi c0_i32_35 c16_i32_36
  let c1_i32_37 : BitVec 32 := 1#32
  ⟨c0_i32_35, v40, c1_i32_37⟩
def k0_mult5 (k0_t5 : Fin k0_t5_loop.trips) : BitVec 32 :=
  let c0_i32_35 : BitVec 32 := 0#32
  let c1_i32_37 : BitVec 32 := 1#32
  let arg11 : BitVec 32 := Scf.iv c0_i32_35 c1_i32_37 k0_t5
  let c512_i32 : BitVec 32 := 512#32
  let v209 : BitVec 32 := Scalar.muli arg11 c512_i32
  v209
def k0_off13 (k0_t5 : Fin k0_t5_loop.trips) : Fin 2 → Nat :=
  let c0_i32_35 : BitVec 32 := 0#32
  let c1_i32_37 : BitVec 32 := 1#32
  let arg11 : BitVec 32 := Scf.iv c0_i32_35 c1_i32_37 k0_t5
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off14 (k0_t5 : Fin k0_t5_loop.trips) : Fin 2 → Nat :=
  let c0_i32_35 : BitVec 32 := 0#32
  let c1_i32_37 : BitVec 32 := 1#32
  let arg11 : BitVec 32 := Scf.iv c0_i32_35 c1_i32_37 k0_t5
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off15 (k0_t5 : Fin k0_t5_loop.trips) : Fin 3 → Nat :=
  let c0_i32_35 : BitVec 32 := 0#32
  let c1_i32_37 : BitVec 32 := 1#32
  let arg11 : BitVec 32 := Scf.iv c0_i32_35 c1_i32_37 k0_t5
  let v232 : Index := Scalar.indexCast arg11
  let c0_188 : Index := 0#32
  let c0_189 : Index := 0#32
  ![v232.toNat, 0, 0]
@[reducible] def k0_t6_loop : Scf.Loop 32 :=
  let c0_i32_41 : BitVec 32 := 0#32
  let c16_i32_42 : BitVec 32 := 16#32
  let v45 : BitVec 32 := Scalar.addi c0_i32_41 c16_i32_42
  let c1_i32_43 : BitVec 32 := 1#32
  ⟨c0_i32_41, v45, c1_i32_43⟩
def k0_mult6 (k0_t6 : Fin k0_t6_loop.trips) : BitVec 32 :=
  let c0_i32_41 : BitVec 32 := 0#32
  let c1_i32_43 : BitVec 32 := 1#32
  let arg11 : BitVec 32 := Scf.iv c0_i32_41 c1_i32_43 k0_t6
  let c512_i32 : BitVec 32 := 512#32
  let v209 : BitVec 32 := Scalar.muli arg11 c512_i32
  v209
def k0_off16 (k0_t6 : Fin k0_t6_loop.trips) : Fin 2 → Nat :=
  let c0_i32_41 : BitVec 32 := 0#32
  let c1_i32_43 : BitVec 32 := 1#32
  let arg11 : BitVec 32 := Scf.iv c0_i32_41 c1_i32_43 k0_t6
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off17 (k0_t6 : Fin k0_t6_loop.trips) : Fin 3 → Nat :=
  let c0_i32_41 : BitVec 32 := 0#32
  let c1_i32_43 : BitVec 32 := 1#32
  let arg11 : BitVec 32 := Scf.iv c0_i32_41 c1_i32_43 k0_t6
  let v213 : Index := Scalar.indexCast arg11
  let c0_184 : Index := 0#32
  let c0_185 : Index := 0#32
  ![v213.toNat, 0, 0]
def k0_off18 (k0_t6 : Fin k0_t6_loop.trips) : Fin 2 → Nat :=
  let c0_186 : Index := 0#32
  let c0_i32_41 : BitVec 32 := 0#32
  let c1_i32_43 : BitVec 32 := 1#32
  let arg11 : BitVec 32 := Scf.iv c0_i32_41 c1_i32_43 k0_t6
  let c512_i32 : BitVec 32 := 512#32
  let v209 : BitVec 32 := Scalar.muli arg11 c512_i32
  let v210 : BitVec 32 := v209
  let v221 : Index := Scalar.indexCast v210
  ![0, v221.toNat]
@[reducible] def k0_t7_loop : Scf.Loop 32 :=
  let c0_i32_52 : BitVec 32 := 0#32
  let c16_i32_53 : BitVec 32 := 16#32
  let v57 : BitVec 32 := Scalar.addi c0_i32_52 c16_i32_53
  let c1_i32_54 : BitVec 32 := 1#32
  ⟨c0_i32_52, v57, c1_i32_54⟩
def k0_mult7 (k0_t7 : Fin k0_t7_loop.trips) : BitVec 32 :=
  let c0_i32_52 : BitVec 32 := 0#32
  let c1_i32_54 : BitVec 32 := 1#32
  let arg11 : BitVec 32 := Scf.iv c0_i32_52 c1_i32_54 k0_t7
  let c512_i32 : BitVec 32 := 512#32
  let v209 : BitVec 32 := Scalar.muli arg11 c512_i32
  v209
def k0_off19 (k0_t7 : Fin k0_t7_loop.trips) : Fin 2 → Nat :=
  let c0_i32_52 : BitVec 32 := 0#32
  let c1_i32_54 : BitVec 32 := 1#32
  let arg11 : BitVec 32 := Scf.iv c0_i32_52 c1_i32_54 k0_t7
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off20 (k0_t7 : Fin k0_t7_loop.trips) : Fin 2 → Nat :=
  let c0_i32_52 : BitVec 32 := 0#32
  let c1_i32_54 : BitVec 32 := 1#32
  let arg11 : BitVec 32 := Scf.iv c0_i32_52 c1_i32_54 k0_t7
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off21 (k0_t7 : Fin k0_t7_loop.trips) : Fin 3 → Nat :=
  let c0_i32_52 : BitVec 32 := 0#32
  let c1_i32_54 : BitVec 32 := 1#32
  let arg11 : BitVec 32 := Scf.iv c0_i32_52 c1_i32_54 k0_t7
  let v232 : Index := Scalar.indexCast arg11
  let c0_188 : Index := 0#32
  let c0_189 : Index := 0#32
  ![v232.toNat, 0, 0]
@[reducible] def k0_t8_loop : Scf.Loop 32 :=
  let c0_i32_58 : BitVec 32 := 0#32
  let c16_i32_59 : BitVec 32 := 16#32
  let v62 : BitVec 32 := Scalar.addi c0_i32_58 c16_i32_59
  let c1_i32_60 : BitVec 32 := 1#32
  ⟨c0_i32_58, v62, c1_i32_60⟩
def k0_mult8 (k0_t8 : Fin k0_t8_loop.trips) : BitVec 32 :=
  let c0_i32_58 : BitVec 32 := 0#32
  let c1_i32_60 : BitVec 32 := 1#32
  let arg11 : BitVec 32 := Scf.iv c0_i32_58 c1_i32_60 k0_t8
  let c512_i32 : BitVec 32 := 512#32
  let v209 : BitVec 32 := Scalar.muli arg11 c512_i32
  v209
def k0_off22 (k0_t8 : Fin k0_t8_loop.trips) : Fin 2 → Nat :=
  let c0_i32_58 : BitVec 32 := 0#32
  let c1_i32_60 : BitVec 32 := 1#32
  let arg11 : BitVec 32 := Scf.iv c0_i32_58 c1_i32_60 k0_t8
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off23 (k0_t8 : Fin k0_t8_loop.trips) : Fin 3 → Nat :=
  let c0_i32_58 : BitVec 32 := 0#32
  let c1_i32_60 : BitVec 32 := 1#32
  let arg11 : BitVec 32 := Scf.iv c0_i32_58 c1_i32_60 k0_t8
  let v213 : Index := Scalar.indexCast arg11
  let c0_184 : Index := 0#32
  let c0_185 : Index := 0#32
  ![v213.toNat, 0, 0]
def k0_off24 (k0_t8 : Fin k0_t8_loop.trips) : Fin 2 → Nat :=
  let c0_186 : Index := 0#32
  let c0_i32_58 : BitVec 32 := 0#32
  let c1_i32_60 : BitVec 32 := 1#32
  let arg11 : BitVec 32 := Scf.iv c0_i32_58 c1_i32_60 k0_t8
  let c512_i32 : BitVec 32 := 512#32
  let v209 : BitVec 32 := Scalar.muli arg11 c512_i32
  let v210 : BitVec 32 := v209
  let v221 : Index := Scalar.indexCast v210
  ![0, v221.toNat]
@[reducible] def k0_t9_loop : Scf.Loop 32 :=
  let c0_i32_69 : BitVec 32 := 0#32
  let c16_i32_70 : BitVec 32 := 16#32
  let v74 : BitVec 32 := Scalar.addi c0_i32_69 c16_i32_70
  let c1_i32_71 : BitVec 32 := 1#32
  ⟨c0_i32_69, v74, c1_i32_71⟩
def k0_mult9 (k0_t9 : Fin k0_t9_loop.trips) : BitVec 32 :=
  let c0_i32_69 : BitVec 32 := 0#32
  let c1_i32_71 : BitVec 32 := 1#32
  let arg11 : BitVec 32 := Scf.iv c0_i32_69 c1_i32_71 k0_t9
  let c512_i32 : BitVec 32 := 512#32
  let v209 : BitVec 32 := Scalar.muli arg11 c512_i32
  v209
def k0_off25 (k0_t9 : Fin k0_t9_loop.trips) : Fin 2 → Nat :=
  let c0_i32_69 : BitVec 32 := 0#32
  let c1_i32_71 : BitVec 32 := 1#32
  let arg11 : BitVec 32 := Scf.iv c0_i32_69 c1_i32_71 k0_t9
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off26 (k0_t9 : Fin k0_t9_loop.trips) : Fin 2 → Nat :=
  let c0_i32_69 : BitVec 32 := 0#32
  let c1_i32_71 : BitVec 32 := 1#32
  let arg11 : BitVec 32 := Scf.iv c0_i32_69 c1_i32_71 k0_t9
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off27 (k0_t9 : Fin k0_t9_loop.trips) : Fin 3 → Nat :=
  let c0_i32_69 : BitVec 32 := 0#32
  let c1_i32_71 : BitVec 32 := 1#32
  let arg11 : BitVec 32 := Scf.iv c0_i32_69 c1_i32_71 k0_t9
  let v232 : Index := Scalar.indexCast arg11
  let c0_188 : Index := 0#32
  let c0_189 : Index := 0#32
  ![v232.toNat, 0, 0]
@[reducible] def k0_t10_loop : Scf.Loop 32 :=
  let c0_i32_75 : BitVec 32 := 0#32
  let c16_i32_76 : BitVec 32 := 16#32
  let v79 : BitVec 32 := Scalar.addi c0_i32_75 c16_i32_76
  let c1_i32_77 : BitVec 32 := 1#32
  ⟨c0_i32_75, v79, c1_i32_77⟩
def k0_mult10 (k0_t10 : Fin k0_t10_loop.trips) : BitVec 32 :=
  let c0_i32_75 : BitVec 32 := 0#32
  let c1_i32_77 : BitVec 32 := 1#32
  let arg11 : BitVec 32 := Scf.iv c0_i32_75 c1_i32_77 k0_t10
  let c512_i32 : BitVec 32 := 512#32
  let v209 : BitVec 32 := Scalar.muli arg11 c512_i32
  v209
def k0_off28 (k0_t10 : Fin k0_t10_loop.trips) : Fin 2 → Nat :=
  let c0_i32_75 : BitVec 32 := 0#32
  let c1_i32_77 : BitVec 32 := 1#32
  let arg11 : BitVec 32 := Scf.iv c0_i32_75 c1_i32_77 k0_t10
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off29 (k0_t10 : Fin k0_t10_loop.trips) : Fin 3 → Nat :=
  let c0_i32_75 : BitVec 32 := 0#32
  let c1_i32_77 : BitVec 32 := 1#32
  let arg11 : BitVec 32 := Scf.iv c0_i32_75 c1_i32_77 k0_t10
  let v213 : Index := Scalar.indexCast arg11
  let c0_184 : Index := 0#32
  let c0_185 : Index := 0#32
  ![v213.toNat, 0, 0]
def k0_off30 (k0_t10 : Fin k0_t10_loop.trips) : Fin 2 → Nat :=
  let c0_186 : Index := 0#32
  let c0_i32_75 : BitVec 32 := 0#32
  let c1_i32_77 : BitVec 32 := 1#32
  let arg11 : BitVec 32 := Scf.iv c0_i32_75 c1_i32_77 k0_t10
  let c512_i32 : BitVec 32 := 512#32
  let v209 : BitVec 32 := Scalar.muli arg11 c512_i32
  let v210 : BitVec 32 := v209
  let v221 : Index := Scalar.indexCast v210
  ![0, v221.toNat]
@[reducible] def k0_t11_loop : Scf.Loop 32 :=
  let c0_i32_86 : BitVec 32 := 0#32
  let c16_i32_87 : BitVec 32 := 16#32
  let v91 : BitVec 32 := Scalar.addi c0_i32_86 c16_i32_87
  let c1_i32_88 : BitVec 32 := 1#32
  ⟨c0_i32_86, v91, c1_i32_88⟩
def k0_mult11 (k0_t11 : Fin k0_t11_loop.trips) : BitVec 32 :=
  let c0_i32_86 : BitVec 32 := 0#32
  let c1_i32_88 : BitVec 32 := 1#32
  let arg11 : BitVec 32 := Scf.iv c0_i32_86 c1_i32_88 k0_t11
  let c512_i32 : BitVec 32 := 512#32
  let v209 : BitVec 32 := Scalar.muli arg11 c512_i32
  v209
def k0_off31 (k0_t11 : Fin k0_t11_loop.trips) : Fin 2 → Nat :=
  let c0_i32_86 : BitVec 32 := 0#32
  let c1_i32_88 : BitVec 32 := 1#32
  let arg11 : BitVec 32 := Scf.iv c0_i32_86 c1_i32_88 k0_t11
  let c512_i32 : BitVec 32 := 512#32
  let v209 : BitVec 32 := Scalar.muli arg11 c512_i32
  let v210 : BitVec 32 := v209
  let v211 : Index := Scalar.indexCast v210
  let c128_183 : Index := 128#32
  ![v211.toNat, 128]
def k0_off32 (k0_t11 : Fin k0_t11_loop.trips) : Fin 2 → Nat :=
  let c0_i32_86 : BitVec 32 := 0#32
  let c1_i32_88 : BitVec 32 := 1#32
  let arg11 : BitVec 32 := Scf.iv c0_i32_86 c1_i32_88 k0_t11
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off33 (k0_t11 : Fin k0_t11_loop.trips) : Fin 3 → Nat :=
  let c0_i32_86 : BitVec 32 := 0#32
  let c1_i32_88 : BitVec 32 := 1#32
  let arg11 : BitVec 32 := Scf.iv c0_i32_86 c1_i32_88 k0_t11
  let v232 : Index := Scalar.indexCast arg11
  let c0_188 : Index := 0#32
  let c0_189 : Index := 0#32
  ![v232.toNat, 0, 0]
@[reducible] def k0_t12_loop : Scf.Loop 32 :=
  let c0_i32_92 : BitVec 32 := 0#32
  let c16_i32_93 : BitVec 32 := 16#32
  let v96 : BitVec 32 := Scalar.addi c0_i32_92 c16_i32_93
  let c1_i32_94 : BitVec 32 := 1#32
  ⟨c0_i32_92, v96, c1_i32_94⟩
def k0_mult12 (k0_t12 : Fin k0_t12_loop.trips) : BitVec 32 :=
  let c0_i32_92 : BitVec 32 := 0#32
  let c1_i32_94 : BitVec 32 := 1#32
  let arg11 : BitVec 32 := Scf.iv c0_i32_92 c1_i32_94 k0_t12
  let c512_i32 : BitVec 32 := 512#32
  let v209 : BitVec 32 := Scalar.muli arg11 c512_i32
  v209
def k0_off34 (k0_t12 : Fin k0_t12_loop.trips) : Fin 2 → Nat :=
  let c0_i32_92 : BitVec 32 := 0#32
  let c1_i32_94 : BitVec 32 := 1#32
  let arg11 : BitVec 32 := Scf.iv c0_i32_92 c1_i32_94 k0_t12
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off35 (k0_t12 : Fin k0_t12_loop.trips) : Fin 3 → Nat :=
  let c0_i32_92 : BitVec 32 := 0#32
  let c1_i32_94 : BitVec 32 := 1#32
  let arg11 : BitVec 32 := Scf.iv c0_i32_92 c1_i32_94 k0_t12
  let v213 : Index := Scalar.indexCast arg11
  let c0_184 : Index := 0#32
  let c0_185 : Index := 0#32
  ![v213.toNat, 0, 0]
def k0_off36 (k0_t12 : Fin k0_t12_loop.trips) : Fin 2 → Nat :=
  let c128_186 : Index := 128#32
  let c0_i32_92 : BitVec 32 := 0#32
  let c1_i32_94 : BitVec 32 := 1#32
  let arg11 : BitVec 32 := Scf.iv c0_i32_92 c1_i32_94 k0_t12
  let c512_i32 : BitVec 32 := 512#32
  let v209 : BitVec 32 := Scalar.muli arg11 c512_i32
  let v210 : BitVec 32 := v209
  let v221 : Index := Scalar.indexCast v210
  ![128, v221.toNat]
@[reducible] def k0_t13_loop : Scf.Loop 32 :=
  let c0_i32_103 : BitVec 32 := 0#32
  let c16_i32_104 : BitVec 32 := 16#32
  let v108 : BitVec 32 := Scalar.addi c0_i32_103 c16_i32_104
  let c1_i32_105 : BitVec 32 := 1#32
  ⟨c0_i32_103, v108, c1_i32_105⟩
def k0_mult13 (k0_t13 : Fin k0_t13_loop.trips) : BitVec 32 :=
  let c0_i32_103 : BitVec 32 := 0#32
  let c1_i32_105 : BitVec 32 := 1#32
  let arg11 : BitVec 32 := Scf.iv c0_i32_103 c1_i32_105 k0_t13
  let c512_i32 : BitVec 32 := 512#32
  let v209 : BitVec 32 := Scalar.muli arg11 c512_i32
  v209
def k0_off37 (k0_t13 : Fin k0_t13_loop.trips) : Fin 2 → Nat :=
  let c0_i32_103 : BitVec 32 := 0#32
  let c1_i32_105 : BitVec 32 := 1#32
  let arg11 : BitVec 32 := Scf.iv c0_i32_103 c1_i32_105 k0_t13
  let c512_i32 : BitVec 32 := 512#32
  let v209 : BitVec 32 := Scalar.muli arg11 c512_i32
  let v210 : BitVec 32 := v209
  let v211 : Index := Scalar.indexCast v210
  let c128_183 : Index := 128#32
  ![v211.toNat, 128]
def k0_off38 (k0_t13 : Fin k0_t13_loop.trips) : Fin 2 → Nat :=
  let c0_i32_103 : BitVec 32 := 0#32
  let c1_i32_105 : BitVec 32 := 1#32
  let arg11 : BitVec 32 := Scf.iv c0_i32_103 c1_i32_105 k0_t13
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off39 (k0_t13 : Fin k0_t13_loop.trips) : Fin 3 → Nat :=
  let c0_i32_103 : BitVec 32 := 0#32
  let c1_i32_105 : BitVec 32 := 1#32
  let arg11 : BitVec 32 := Scf.iv c0_i32_103 c1_i32_105 k0_t13
  let v232 : Index := Scalar.indexCast arg11
  let c0_188 : Index := 0#32
  let c0_189 : Index := 0#32
  ![v232.toNat, 0, 0]
@[reducible] def k0_t14_loop : Scf.Loop 32 :=
  let c0_i32_109 : BitVec 32 := 0#32
  let c16_i32_110 : BitVec 32 := 16#32
  let v113 : BitVec 32 := Scalar.addi c0_i32_109 c16_i32_110
  let c1_i32_111 : BitVec 32 := 1#32
  ⟨c0_i32_109, v113, c1_i32_111⟩
def k0_mult14 (k0_t14 : Fin k0_t14_loop.trips) : BitVec 32 :=
  let c0_i32_109 : BitVec 32 := 0#32
  let c1_i32_111 : BitVec 32 := 1#32
  let arg11 : BitVec 32 := Scf.iv c0_i32_109 c1_i32_111 k0_t14
  let c512_i32 : BitVec 32 := 512#32
  let v209 : BitVec 32 := Scalar.muli arg11 c512_i32
  v209
def k0_off40 (k0_t14 : Fin k0_t14_loop.trips) : Fin 2 → Nat :=
  let c0_i32_109 : BitVec 32 := 0#32
  let c1_i32_111 : BitVec 32 := 1#32
  let arg11 : BitVec 32 := Scf.iv c0_i32_109 c1_i32_111 k0_t14
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off41 (k0_t14 : Fin k0_t14_loop.trips) : Fin 3 → Nat :=
  let c0_i32_109 : BitVec 32 := 0#32
  let c1_i32_111 : BitVec 32 := 1#32
  let arg11 : BitVec 32 := Scf.iv c0_i32_109 c1_i32_111 k0_t14
  let v213 : Index := Scalar.indexCast arg11
  let c0_184 : Index := 0#32
  let c0_185 : Index := 0#32
  ![v213.toNat, 0, 0]
def k0_off42 (k0_t14 : Fin k0_t14_loop.trips) : Fin 2 → Nat :=
  let c128_186 : Index := 128#32
  let c0_i32_109 : BitVec 32 := 0#32
  let c1_i32_111 : BitVec 32 := 1#32
  let arg11 : BitVec 32 := Scf.iv c0_i32_109 c1_i32_111 k0_t14
  let c512_i32 : BitVec 32 := 512#32
  let v209 : BitVec 32 := Scalar.muli arg11 c512_i32
  let v210 : BitVec 32 := v209
  let v221 : Index := Scalar.indexCast v210
  ![128, v221.toNat]
@[reducible] def k0_t15_loop : Scf.Loop 32 :=
  let c0_i32_120 : BitVec 32 := 0#32
  let c16_i32_121 : BitVec 32 := 16#32
  let v125 : BitVec 32 := Scalar.addi c0_i32_120 c16_i32_121
  let c1_i32_122 : BitVec 32 := 1#32
  ⟨c0_i32_120, v125, c1_i32_122⟩
def k0_mult15 (k0_t15 : Fin k0_t15_loop.trips) : BitVec 32 :=
  let c0_i32_120 : BitVec 32 := 0#32
  let c1_i32_122 : BitVec 32 := 1#32
  let arg11 : BitVec 32 := Scf.iv c0_i32_120 c1_i32_122 k0_t15
  let c512_i32 : BitVec 32 := 512#32
  let v209 : BitVec 32 := Scalar.muli arg11 c512_i32
  v209
def k0_off43 (k0_t15 : Fin k0_t15_loop.trips) : Fin 2 → Nat :=
  let c0_i32_120 : BitVec 32 := 0#32
  let c1_i32_122 : BitVec 32 := 1#32
  let arg11 : BitVec 32 := Scf.iv c0_i32_120 c1_i32_122 k0_t15
  let c512_i32 : BitVec 32 := 512#32
  let v209 : BitVec 32 := Scalar.muli arg11 c512_i32
  let v210 : BitVec 32 := v209
  let v211 : Index := Scalar.indexCast v210
  let c128_183 : Index := 128#32
  ![v211.toNat, 128]
def k0_off44 (k0_t15 : Fin k0_t15_loop.trips) : Fin 2 → Nat :=
  let c0_i32_120 : BitVec 32 := 0#32
  let c1_i32_122 : BitVec 32 := 1#32
  let arg11 : BitVec 32 := Scf.iv c0_i32_120 c1_i32_122 k0_t15
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off45 (k0_t15 : Fin k0_t15_loop.trips) : Fin 3 → Nat :=
  let c0_i32_120 : BitVec 32 := 0#32
  let c1_i32_122 : BitVec 32 := 1#32
  let arg11 : BitVec 32 := Scf.iv c0_i32_120 c1_i32_122 k0_t15
  let v232 : Index := Scalar.indexCast arg11
  let c0_188 : Index := 0#32
  let c0_189 : Index := 0#32
  ![v232.toNat, 0, 0]
@[reducible] def k0_t16_loop : Scf.Loop 32 :=
  let c0_i32_126 : BitVec 32 := 0#32
  let c16_i32_127 : BitVec 32 := 16#32
  let v130 : BitVec 32 := Scalar.addi c0_i32_126 c16_i32_127
  let c1_i32_128 : BitVec 32 := 1#32
  ⟨c0_i32_126, v130, c1_i32_128⟩
def k0_mult16 (k0_t16 : Fin k0_t16_loop.trips) : BitVec 32 :=
  let c0_i32_126 : BitVec 32 := 0#32
  let c1_i32_128 : BitVec 32 := 1#32
  let arg11 : BitVec 32 := Scf.iv c0_i32_126 c1_i32_128 k0_t16
  let c512_i32 : BitVec 32 := 512#32
  let v209 : BitVec 32 := Scalar.muli arg11 c512_i32
  v209
def k0_off46 (k0_t16 : Fin k0_t16_loop.trips) : Fin 2 → Nat :=
  let c0_i32_126 : BitVec 32 := 0#32
  let c1_i32_128 : BitVec 32 := 1#32
  let arg11 : BitVec 32 := Scf.iv c0_i32_126 c1_i32_128 k0_t16
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off47 (k0_t16 : Fin k0_t16_loop.trips) : Fin 3 → Nat :=
  let c0_i32_126 : BitVec 32 := 0#32
  let c1_i32_128 : BitVec 32 := 1#32
  let arg11 : BitVec 32 := Scf.iv c0_i32_126 c1_i32_128 k0_t16
  let v213 : Index := Scalar.indexCast arg11
  let c0_184 : Index := 0#32
  let c0_185 : Index := 0#32
  ![v213.toNat, 0, 0]
def k0_off48 (k0_t16 : Fin k0_t16_loop.trips) : Fin 2 → Nat :=
  let c128_186 : Index := 128#32
  let c0_i32_126 : BitVec 32 := 0#32
  let c1_i32_128 : BitVec 32 := 1#32
  let arg11 : BitVec 32 := Scf.iv c0_i32_126 c1_i32_128 k0_t16
  let c512_i32 : BitVec 32 := 512#32
  let v209 : BitVec 32 := Scalar.muli arg11 c512_i32
  let v210 : BitVec 32 := v209
  let v221 : Index := Scalar.indexCast v210
  ![128, v221.toNat]
@[reducible] def k0_t17_loop : Scf.Loop 32 :=
  let c0_i32_137 : BitVec 32 := 0#32
  let c16_i32_138 : BitVec 32 := 16#32
  let v142 : BitVec 32 := Scalar.addi c0_i32_137 c16_i32_138
  let c1_i32_139 : BitVec 32 := 1#32
  ⟨c0_i32_137, v142, c1_i32_139⟩
def k0_mult17 (k0_t17 : Fin k0_t17_loop.trips) : BitVec 32 :=
  let c0_i32_137 : BitVec 32 := 0#32
  let c1_i32_139 : BitVec 32 := 1#32
  let arg11 : BitVec 32 := Scf.iv c0_i32_137 c1_i32_139 k0_t17
  let c512_i32 : BitVec 32 := 512#32
  let v209 : BitVec 32 := Scalar.muli arg11 c512_i32
  v209
def k0_off49 (k0_t17 : Fin k0_t17_loop.trips) : Fin 2 → Nat :=
  let c0_i32_137 : BitVec 32 := 0#32
  let c1_i32_139 : BitVec 32 := 1#32
  let arg11 : BitVec 32 := Scf.iv c0_i32_137 c1_i32_139 k0_t17
  let c512_i32 : BitVec 32 := 512#32
  let v209 : BitVec 32 := Scalar.muli arg11 c512_i32
  let v210 : BitVec 32 := v209
  let v211 : Index := Scalar.indexCast v210
  let c128_183 : Index := 128#32
  ![v211.toNat, 128]
def k0_off50 (k0_t17 : Fin k0_t17_loop.trips) : Fin 2 → Nat :=
  let c0_i32_137 : BitVec 32 := 0#32
  let c1_i32_139 : BitVec 32 := 1#32
  let arg11 : BitVec 32 := Scf.iv c0_i32_137 c1_i32_139 k0_t17
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off51 (k0_t17 : Fin k0_t17_loop.trips) : Fin 3 → Nat :=
  let c0_i32_137 : BitVec 32 := 0#32
  let c1_i32_139 : BitVec 32 := 1#32
  let arg11 : BitVec 32 := Scf.iv c0_i32_137 c1_i32_139 k0_t17
  let v232 : Index := Scalar.indexCast arg11
  let c0_188 : Index := 0#32
  let c0_189 : Index := 0#32
  ![v232.toNat, 0, 0]
@[reducible] def k0_t18_loop : Scf.Loop 32 :=
  let c0_i32_143 : BitVec 32 := 0#32
  let c16_i32_144 : BitVec 32 := 16#32
  let v147 : BitVec 32 := Scalar.addi c0_i32_143 c16_i32_144
  let c1_i32_145 : BitVec 32 := 1#32
  ⟨c0_i32_143, v147, c1_i32_145⟩
def k0_mult18 (k0_t18 : Fin k0_t18_loop.trips) : BitVec 32 :=
  let c0_i32_143 : BitVec 32 := 0#32
  let c1_i32_145 : BitVec 32 := 1#32
  let arg11 : BitVec 32 := Scf.iv c0_i32_143 c1_i32_145 k0_t18
  let c512_i32 : BitVec 32 := 512#32
  let v209 : BitVec 32 := Scalar.muli arg11 c512_i32
  v209
def k0_off52 (k0_t18 : Fin k0_t18_loop.trips) : Fin 2 → Nat :=
  let c0_i32_143 : BitVec 32 := 0#32
  let c1_i32_145 : BitVec 32 := 1#32
  let arg11 : BitVec 32 := Scf.iv c0_i32_143 c1_i32_145 k0_t18
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off53 (k0_t18 : Fin k0_t18_loop.trips) : Fin 3 → Nat :=
  let c0_i32_143 : BitVec 32 := 0#32
  let c1_i32_145 : BitVec 32 := 1#32
  let arg11 : BitVec 32 := Scf.iv c0_i32_143 c1_i32_145 k0_t18
  let v213 : Index := Scalar.indexCast arg11
  let c0_184 : Index := 0#32
  let c0_185 : Index := 0#32
  ![v213.toNat, 0, 0]
def k0_off54 (k0_t18 : Fin k0_t18_loop.trips) : Fin 2 → Nat :=
  let c128_186 : Index := 128#32
  let c0_i32_143 : BitVec 32 := 0#32
  let c1_i32_145 : BitVec 32 := 1#32
  let arg11 : BitVec 32 := Scf.iv c0_i32_143 c1_i32_145 k0_t18
  let c512_i32 : BitVec 32 := 512#32
  let v209 : BitVec 32 := Scalar.muli arg11 c512_i32
  let v210 : BitVec 32 := v209
  let v221 : Index := Scalar.indexCast v210
  ![128, v221.toNat]
@[reducible] def k0_t19_loop : Scf.Loop 32 :=
  let c0_i32_154 : BitVec 32 := 0#32
  let c16_i32_155 : BitVec 32 := 16#32
  let v159 : BitVec 32 := Scalar.addi c0_i32_154 c16_i32_155
  let c1_i32_156 : BitVec 32 := 1#32
  ⟨c0_i32_154, v159, c1_i32_156⟩
def k0_mult19 (k0_t19 : Fin k0_t19_loop.trips) : BitVec 32 :=
  let c0_i32_154 : BitVec 32 := 0#32
  let c1_i32_156 : BitVec 32 := 1#32
  let arg11 : BitVec 32 := Scf.iv c0_i32_154 c1_i32_156 k0_t19
  let c512_i32 : BitVec 32 := 512#32
  let v209 : BitVec 32 := Scalar.muli arg11 c512_i32
  v209
def k0_off55 (k0_t19 : Fin k0_t19_loop.trips) : Fin 2 → Nat :=
  let c0_i32_154 : BitVec 32 := 0#32
  let c1_i32_156 : BitVec 32 := 1#32
  let arg11 : BitVec 32 := Scf.iv c0_i32_154 c1_i32_156 k0_t19
  let c512_i32 : BitVec 32 := 512#32
  let v209 : BitVec 32 := Scalar.muli arg11 c512_i32
  let v210 : BitVec 32 := v209
  let v211 : Index := Scalar.indexCast v210
  let c128_183 : Index := 128#32
  ![v211.toNat, 128]
def k0_off56 (k0_t19 : Fin k0_t19_loop.trips) : Fin 2 → Nat :=
  let c0_i32_154 : BitVec 32 := 0#32
  let c1_i32_156 : BitVec 32 := 1#32
  let arg11 : BitVec 32 := Scf.iv c0_i32_154 c1_i32_156 k0_t19
  let c512_i32 : BitVec 32 := 512#32
  let v209 : BitVec 32 := Scalar.muli arg11 c512_i32
  let v210 : BitVec 32 := v209
  let v226 : Index := Scalar.indexCast v210
  let c0_187 : Index := 0#32
  ![v226.toNat, 0]
def k0_off57 (k0_t19 : Fin k0_t19_loop.trips) : Fin 3 → Nat :=
  let c0_i32_154 : BitVec 32 := 0#32
  let c1_i32_156 : BitVec 32 := 1#32
  let arg11 : BitVec 32 := Scf.iv c0_i32_154 c1_i32_156 k0_t19
  let v232 : Index := Scalar.indexCast arg11
  let c0_188 : Index := 0#32
  let c0_189 : Index := 0#32
  ![v232.toNat, 0, 0]
@[reducible] def k0_t20_loop : Scf.Loop 32 :=
  let c0_i32_160 : BitVec 32 := 0#32
  let c16_i32_161 : BitVec 32 := 16#32
  let v164 : BitVec 32 := Scalar.addi c0_i32_160 c16_i32_161
  let c1_i32_162 : BitVec 32 := 1#32
  ⟨c0_i32_160, v164, c1_i32_162⟩
def k0_mult20 (k0_t20 : Fin k0_t20_loop.trips) : BitVec 32 :=
  let c0_i32_160 : BitVec 32 := 0#32
  let c1_i32_162 : BitVec 32 := 1#32
  let arg11 : BitVec 32 := Scf.iv c0_i32_160 c1_i32_162 k0_t20
  let c512_i32 : BitVec 32 := 512#32
  let v209 : BitVec 32 := Scalar.muli arg11 c512_i32
  v209
def k0_off58 (k0_t20 : Fin k0_t20_loop.trips) : Fin 2 → Nat :=
  let c0_i32_160 : BitVec 32 := 0#32
  let c1_i32_162 : BitVec 32 := 1#32
  let arg11 : BitVec 32 := Scf.iv c0_i32_160 c1_i32_162 k0_t20
  let c512_i32 : BitVec 32 := 512#32
  let v209 : BitVec 32 := Scalar.muli arg11 c512_i32
  let v210 : BitVec 32 := v209
  let v211 : Index := Scalar.indexCast v210
  let c0_183 : Index := 0#32
  ![v211.toNat, 0]
def k0_off59 (k0_t20 : Fin k0_t20_loop.trips) : Fin 3 → Nat :=
  let c0_i32_160 : BitVec 32 := 0#32
  let c1_i32_162 : BitVec 32 := 1#32
  let arg11 : BitVec 32 := Scf.iv c0_i32_160 c1_i32_162 k0_t20
  let v213 : Index := Scalar.indexCast arg11
  let c0_184 : Index := 0#32
  let c0_185 : Index := 0#32
  ![v213.toNat, 0, 0]
def k0_off60 (k0_t20 : Fin k0_t20_loop.trips) : Fin 2 → Nat :=
  let c128_186 : Index := 128#32
  let c0_i32_160 : BitVec 32 := 0#32
  let c1_i32_162 : BitVec 32 := 1#32
  let arg11 : BitVec 32 := Scf.iv c0_i32_160 c1_i32_162 k0_t20
  let c512_i32 : BitVec 32 := 512#32
  let v209 : BitVec 32 := Scalar.muli arg11 c512_i32
  let v210 : BitVec 32 := v209
  let v221 : Index := Scalar.indexCast v210
  ![128, v221.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.AttnEnds.lean ====
/- The call `attn` runs to the end without fault and leaves its arguments unchanged. Its outputs are written, and nothing is said of
   what they hold. -/
module

public import proofs.«01_k».proof.Proof.Gen.Attn.Launch
public import proofs.«01_k».proof.Proof.Gen.Attn.Skeleton
public import proofs.«01_k».proof.Proof.Gen.Attn.Loops
public import proofs.«01_k».proof.Proof.Gen.Attn.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Attn.Ends

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- A core's buffers at entry: as launched. -/
abbrev V (c : Dev nD) (b : Ref sig .tc) : Buf (Elt F) ((c : Thread nD τ).loc b) := m ((c : Thread nD τ).loc b)

set_option maxHeartbeats 800000 in
/-- The program up to the call: there is nothing before it. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- A window's block at a point, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for proof data whose array is
    the one at entry and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that leaves the input arrays as they were at entry leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The kernel body on any staging memrefs -/

/-- The windows' staging memrefs at a point; they are whole. -/
abbrev ms0_0 (t : Fin cfg0.N) : Memref sig .tc .vmem S512x1280 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1280 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1280 .f32 := Memref.whole cc0_scratch0
abbrev scM0_1 : Memref sig .tc .vmem S8192x512 .f32 := Memref.whole cc0_scratch1
abbrev scM0_2 : Memref sig .tc .vmem S16x8x512 .f32 := Memref.whole cc0_scratch2

/-- The invariant between points: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- the body has twenty loops
set_option maxHeartbeats 1968000 in
/-- The body runs on whole staging memrefs. The inputs end as they were; the outputs and the scratch buffers end at some
    contents, which are not named. -/
theorem kernelRun0_A (c : Dev nD) (i : grid0.Coords) (arg1 : Memref sig .tc .vmem S512x1280 .fp8e4m3) (harg1 : arg1.IsWhole) (arg2 : Memref sig .tc .vmem S16x512 .f32) (harg2 : arg2.IsWhole) (arg3 : Memref sig .tc .vmem S8192x256 .fp8e4m3) (harg3 : arg3.IsWhole) (arg4 : Memref sig .tc .vmem S8192x256 .f32) (harg4 : arg4.IsWhole) (arg5 : Memref sig .tc .vmem S256x8192 .bf16) (harg5 : arg5.IsWhole) (arg6 : Memref sig .tc .vmem S512x1280 .fp8e4m3) (harg6 : arg6.IsWhole) (arg7 : Memref sig .tc .vmem S16x512 .f32) (harg7 : arg7.IsWhole) (arg8 : Memref sig .tc .vmem S512x1280 .f32) (harg8 : arg8.IsWhole) (arg9 : Memref sig .tc .vmem S8192x512 .f32) (harg9 : arg9.IsWhole) (arg10 : Memref sig .tc .vmem S16x8x512 .f32) (harg10 : arg10.IsWhole)
    (x0 : Vec F S512x1280 .fp8e4m3) (x1 : Vec F S16x512 .f32) (x2 : Vec F S8192x256 .fp8e4m3) (x3 : Vec F S8192x256 .f32) (x4 : Vec F S256x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10) K := by
    intro E K
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The windows whose contents are not named: the two outputs. -/
def forgets0 : Fin 7 → Bool := fun w => w.val == 5 || w.val == 6

/-- What the windows hold after the body at a point: an input its block, an output something that is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those at entry. -/
theorem A_eq (c : Dev nD) (w : Fin cfg0.W) : (dats m 0 c).A w = V m c (Pipeline.arrRef spec0 w) := by
  dsimp only [dats]

/-- The body leaves each input's block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body has at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 800000 in
/-- The body runs at every point from what it has to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table of bodies gives this body at every point. -/
theorem defs₀_row (t : Fin cfg0.N) :
    defs₀ (F := F) .tc cfg0.body (cfg0.bodyArgs t (cfg0.slots t)) = bodyAt0 t := by
  unfold defs₀; rw [Defs.onTc_tc]

/-- The same in the form that the launch theorem asks for. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found through plain definitions
set_option backward.isDefEq.respectTransparency.types false in
/-- The whole launch: the inputs end unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The call ends without fault, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Attn.Ends

end
-- ==== Proof.AttnIdealEnds.lean ====
/- The idealization of the call `attn` runs to the end without fault and leaves its arguments unchanged. Its outputs are written, and nothing is said of
   what they hold. -/
module

public import proofs.«01_k».proof.Proof.Gen.AttnIdeal.Launch
public import proofs.«01_k».proof.Proof.Gen.AttnIdeal.Skeleton
public import proofs.«01_k».proof.Proof.Gen.AttnIdeal.Loops
public import proofs.«01_k».proof.Proof.Gen.AttnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.AttnIdeal.Ends

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- A core's buffers at entry: as launched. -/
abbrev V (c : Dev nD) (b : Ref sig .tc) : Buf (Elt F) ((c : Thread nD τ).loc b) := m ((c : Thread nD τ).loc b)

set_option maxHeartbeats 800000 in
/-- The program up to the call: there is nothing before it. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- A window's block at a point, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for proof data whose array is
    the one at entry and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that leaves the input arrays as they were at entry leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The kernel body on any staging memrefs -/

/-- The windows' staging memrefs at a point; they are whole. -/
abbrev ms0_0 (t : Fin cfg0.N) : Memref sig .tc .vmem S512x1280 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1280 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1280 .f32 := Memref.whole cc0_scratch0
abbrev scM0_1 : Memref sig .tc .vmem S8192x512 .f32 := Memref.whole cc0_scratch1
abbrev scM0_2 : Memref sig .tc .vmem S16x8x512 .f32 := Memref.whole cc0_scratch2

/-- The invariant between points: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- the body has twenty loops
set_option maxHeartbeats 1968000 in
/-- The body runs on whole staging memrefs. The inputs end as they were; the outputs and the scratch buffers end at some
    contents, which are not named. -/
theorem kernelRun0_A (c : Dev nD) (i : grid0.Coords) (arg1 : Memref sig .tc .vmem S512x1280 .fp8e4m3) (harg1 : arg1.IsWhole) (arg2 : Memref sig .tc .vmem S16x512 .f32) (harg2 : arg2.IsWhole) (arg3 : Memref sig .tc .vmem S8192x256 .fp8e4m3) (harg3 : arg3.IsWhole) (arg4 : Memref sig .tc .vmem S8192x256 .f32) (harg4 : arg4.IsWhole) (arg5 : Memref sig .tc .vmem S256x8192 .bf16) (harg5 : arg5.IsWhole) (arg6 : Memref sig .tc .vmem S512x1280 .fp8e4m3) (harg6 : arg6.IsWhole) (arg7 : Memref sig .tc .vmem S16x512 .f32) (harg7 : arg7.IsWhole) (arg8 : Memref sig .tc .vmem S512x1280 .f32) (harg8 : arg8.IsWhole) (arg9 : Memref sig .tc .vmem S8192x512 .f32) (harg9 : arg9.IsWhole) (arg10 : Memref sig .tc .vmem S16x8x512 .f32) (harg10 : arg10.IsWhole)
    (x0 : Vec F S512x1280 .fp8e4m3) (x1 : Vec F S16x512 .f32) (x2 : Vec F S8192x256 .fp8e4m3) (x3 : Vec F S8192x256 .f32) (x4 : Vec F S256x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10) K := by
    intro E K
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The windows whose contents are not named: the two outputs. -/
def forgets0 : Fin 7 → Bool := fun w => w.val == 5 || w.val == 6

/-- What the windows hold after the body at a point: an input its block, an output something that is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those at entry. -/
theorem A_eq (c : Dev nD) (w : Fin cfg0.W) : (dats m 0 c).A w = V m c (Pipeline.arrRef spec0 w) := by
  dsimp only [dats]

/-- The body leaves each input's block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body has at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 800000 in
/-- The body runs at every point from what it has to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table of bodies gives this body at every point. -/
theorem defs₀_row (t : Fin cfg0.N) :
    defs₀ (F := F) .tc cfg0.body (cfg0.bodyArgs t (cfg0.slots t)) = bodyAt0 t := by
  unfold defs₀; rw [Defs.onTc_tc]

/-- The same in the form that the launch theorem asks for. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found through plain definitions
set_option backward.isDefEq.respectTransparency.types false in
/-- The whole launch: the inputs end unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The call ends without fault, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnIdeal.Ends

end
-- ==== Proof.Layer.lean ====
/- The layer's mathematics over extended reals, one element at a time: what both the blocked kernels and the plain
   references are read as. -/
module

public import Idealize.ShloMosaic.Lib.Pointwise
public import Idealize.ShloMosaic.PureOps.Ideal

@[expose] public section

noncomputable section

namespace Cert.Layer

open Idealize.ShloMosaic

/-- A matrix of extended reals, indexed as the programs' arrays are. -/
abbrev Mat (n k : Nat) : Type := (⟨2, ![n, k]⟩ : Shape).Idx → EReal

theorem emb_idx {s : Shape} (r : Rect s) (x : r.shape.Idx) : r.emb x = r.idx x := rfl

/-- One element of a linear layer on codes: a row of codes times a column of weight codes, the row's scale, the column's
    scale, the bias. -/
def lin {K : Nat} (a w : Fin K → EReal) (s ws b : EReal) : EReal := (∑ x, a x * w x) * s * ws + b

/-- One element of the layer's result: the residual plus the second linear layer on the gelu's codes (their scales are row 1
    of the packed scales). -/
def yElem {n : Nat} (h : Mat n 5120) (g : Mat n 3456) (s : Mat 16 n) (w : Mat 3456 5120) (ws b : Mat 1 5120)
    (r : Fin n) (c : Fin 5120) : EReal :=
  h (ix2 r c) + lin (fun k : Fin 3456 => g (ix2 r k)) (fun k => w (ix2 k c)) (s (ix2 1 r)) (ws (ix2 0 c)) (b (ix2 0 c))

theorem yElem_congr {n n' : Nat} {h : Mat n 5120} {h' : Mat n' 5120} {g : Mat n 3456} {g' : Mat n' 3456} {s : Mat 16 n}
    {s' : Mat 16 n'} {w w' : Mat 3456 5120} {ws ws' b b' : Mat 1 5120} {r : Fin n} {r' : Fin n'} (c : Fin 5120)
    (e0 : ∀ k, h (ix2 r k) = h' (ix2 r' k)) (e1 : ∀ k, g (ix2 r k) = g' (ix2 r' k)) (e2 : ∀ k, s (ix2 k r) = s' (ix2 k r'))
    (e3 : w = w') (e4 : ws = ws') (e5 : b = b') : yElem h g s w ws b r c = yElem h' g' s' w' ws' b' r' c := by
  subst e3 e4 e5; simp only [yElem, e0, e1, e2]

/-- The mean over the model dimension's 5120 entries. -/
@[irreducible] def mean (v : Fin 5120 → EReal) : EReal := Ideal.div (∑ x, v x) (Ideal.ofBits .f32 0x45A00000#32)

/-- Layer norm of one row: centred, divided by the root of the mean square plus epsilon, scaled and shifted. -/
@[irreducible] def lnorm (v g b : Fin 5120 → EReal) (c : Fin 5120) : EReal :=
  (v c - mean v) * Ideal.rsqrt (mean (fun x => (v x - mean v) * (v x - mean v)) + Ideal.ofBits .f32 0x358637BD#32) * g c + b c

/-- The largest magnitude of a vector. -/
@[irreducible] def absmax {K : Nat} (v : Fin K → EReal) : EReal :=
  Finset.univ.fold max (Ideal.ofBits .f32 0xFF800000#32) fun x => FloatOps.absf (F := Ideal) (φ := .f32) (v x)

/-- The quantiser's exponent for a vector whose largest magnitude is `a`: the floor of the binary logarithm of a/448, plus
    one; zero for a zero vector. -/
@[irreducible] def expo (a : EReal) : EReal :=
  if a = 0 then 0
  else Ideal.liftRound Int.floor (Ideal.div (Ideal.log (a * Ideal.ofBits .f32 0x3B124925#32))
    (Ideal.log (Ideal.ofBits .f32 0x40000000#32))) + Ideal.ofBits .f32 0x3F800000#32

/-- The quantiser's scale, two to the exponent. -/
@[irreducible] def scale {K : Nat} (v : Fin K → EReal) : EReal := FloatOps.exp2 (F := Ideal) (φ := .f32) (expo (absmax v))

/-- A value brought into the codes' range. -/
@[irreducible] def clip (x : EReal) : EReal := min (Ideal.ofBits .f32 0x43E00000#32) (max (Ideal.ofBits .f32 0xC3E00000#32) x)

/-- The quantiser's code of entry `c`: the entry over the scale, clipped to the codes' range. -/
@[irreducible] def code {K : Nat} (v : Fin K → EReal) (c : Fin K) : EReal :=
  clip (v c * FloatOps.exp2 (F := Ideal) (φ := .f32) (0 - expo (absmax v)))

/-- Gelu by the error function. -/
@[irreducible] def gelu (f : EReal) : EReal :=
  Ideal.ofBits .f32 0x3F000000#32 * f * (1 + FloatOps.erf (F := Ideal) (φ := .f32) (f * Ideal.ofBits .f32 0x3F3504F3#32))

theorem inv448_ne_zero : Ideal.ofBits .f32 0x3B124925#32 ≠ 0 := by
  simp [Ideal.ofBits, Ideal.ieee]

/-- The kernels test a/448 for zero where the quantiser is stated with a test of a: the same. -/
theorem expo_scaled (a : EReal) : (if a * Ideal.ofBits .f32 0x3B124925#32 = 0 then 0
    else Ideal.liftRound Int.floor (Ideal.div (Ideal.log (a * Ideal.ofBits .f32 0x3B124925#32))
      (Ideal.log (Ideal.ofBits .f32 0x40000000#32))) + Ideal.ofBits .f32 0x3F800000#32) = expo a := by
  unfold expo
  simp only [mul_eq_zero, inv448_ne_zero, or_false]

/-- The kernels' exponents, as printed, of a vector of largest magnitudes. -/
def expoKernel {S : Shape} (a : FVec Ideal S .f32) : FVec Ideal S .f32 :=
  select (cmpf .oeq (mulf a (broadcast S (Scalar.ofBits .f32 0x3B124925#32))) (broadcast S (Scalar.ofBits .f32 0x00000000#32)))
    (broadcast S (Scalar.ofBits .f32 0x00000000#32))
    (addf (floor (divf (log (mulf a (broadcast S (Scalar.ofBits .f32 0x3B124925#32))))
      (log (broadcast S (Scalar.ofBits .f32 0x40000000#32))))) (broadcast S (Scalar.ofBits .f32 0x3F800000#32)))

theorem expoKernel_apply {S : Shape} (a : FVec Ideal S .f32) (i : S.Idx) : expoKernel a i = expo (a i) := by
  refine Eq.trans ?_ (expo_scaled (a i))
  show Scalar.select (Ideal.cmp .oeq (a i * Ideal.ofBits .f32 0x3B124925#32) (Ideal.ofBits .f32 0x00000000#32))
    (Ideal.ofBits .f32 0x00000000#32) _ = _
  rw [Ideal.cmp_oeq, Scalar.select_ofBool, Ideal.ofBits_zero_f32]
  simp only [decide_eq_true_eq]
  rfl

/-- The references' exponents, as printed. -/
def expoPlain {S : Shape} (a : FVec Ideal S .f32) : FVec Ideal S .f32 :=
  select (cmpf .oeq a (broadcast S (Scalar.ofBits .f32 0x00000000#32))) (broadcast S (Scalar.ofBits .f32 0x00000000#32))
    (addf (floor (divf (log (mulf a (broadcast S (Scalar.ofBits .f32 0x3B124925#32))))
      (log (broadcast S (Scalar.ofBits .f32 0x40000000#32))))) (broadcast S (Scalar.ofBits .f32 0x3F800000#32)))

theorem expoPlain_apply {S : Shape} (a : FVec Ideal S .f32) (i : S.Idx) : expoPlain a i = expo (a i) := by
  show Scalar.select (Ideal.cmp .oeq (a i) (Ideal.ofBits .f32 0x00000000#32)) (Ideal.ofBits .f32 0x00000000#32) _ = _
  rw [Ideal.cmp_oeq, Scalar.select_ofBool, Ideal.ofBits_zero_f32]
  simp only [decide_eq_true_eq]
  rw [expo]; rfl

theorem exp2_apply {S : Shape} (e : FVec Ideal S .f32) (i : S.Idx) : exp2 e i = FloatOps.exp2 (F := Ideal) (φ := .f32) (e i) := rfl

section Rows

variable {n K : Nat}

/-- The rows' largest magnitudes, as printed. -/
def absmaxV (h : (⟨2, ![n, K]⟩ : Shape).Reduces [1] ⟨1, ![n]⟩) (h' : (⟨1, ![n]⟩ : Shape).ShapeCasts ⟨2, ![n, 1]⟩)
    (v : FVec Ideal ⟨2, ![n, K]⟩ .f32) : FVec Ideal ⟨2, ![n, 1]⟩ .f32 :=
  shapeCast ⟨2, ![n, 1]⟩ (multiReduction .maximumf [1] ⟨1, ![n]⟩ (absf v) 0xFF800000#32 h (.inl rfl) rfl) h'

theorem absmaxV_apply (hn : n = 256 ∨ n = 8192) (h : (⟨2, ![n, K]⟩ : Shape).Reduces [1] ⟨1, ![n]⟩) (h' : (⟨1, ![n]⟩ : Shape).ShapeCasts ⟨2, ![n, 1]⟩)
    (v : FVec Ideal ⟨2, ![n, K]⟩ .f32) (r : Fin n) : absmaxV h h' v (ix2 r 0) = absmax (fun k => v (ix2 r k)) := by
  rcases hn with rfl | rfl <;> pointwise [absmaxV, absmax]

/-- The codes, as printed, of values and exponents. -/
def codeV (h : (⟨2, ![n, 1]⟩ : Shape).Broadcasts ⟨2, ![n, K]⟩) (u : FVec Ideal ⟨2, ![n, K]⟩ .f32)
    (e : FVec Ideal ⟨2, ![n, 1]⟩ .f32) : FVec Ideal ⟨2, ![n, K]⟩ .fp8e4m3 :=
  truncf .fp8e4m3 (minimumf (broadcast _ (Scalar.ofBits .f32 0x43E00000#32)) (maximumf (broadcast _ (Scalar.ofBits .f32 0xC3E00000#32))
    (mulf u (broadcastTo ⟨2, ![n, K]⟩ (exp2 (subf (broadcast _ (Scalar.ofBits .f32 0x00000000#32)) e)) h)))) (by decide)

theorem codeV_apply (hn : n = 256 ∨ n = 8192) (h : (⟨2, ![n, 1]⟩ : Shape).Broadcasts ⟨2, ![n, K]⟩) (u : FVec Ideal ⟨2, ![n, K]⟩ .f32)
    (e : FVec Ideal ⟨2, ![n, 1]⟩ .f32) (r : Fin n) (c : Fin K) :
    codeV h u e (ix2 r c) = clip (u (ix2 r c) * FloatOps.exp2 (F := Ideal) (φ := .f32) (0 - e (ix2 r 0))) := by
  rcases hn with rfl | rfl <;> pointwise [codeV, clip]

end Rows

/-- Row 0 and row 1 of the packed scales, the other fourteen rows zero. -/
def pack2 (s0 s1 : EReal) (k : Fin 16) : EReal := if k = 0 then s0 else if k = 1 then s1 else 0

section MlpOne

variable {n : Nat}

/-- Row `r` of the residual after attention: the input plus the output projection of the attention's codes (their scales
    are row 0 of the packed scales). -/
@[irreducible] def hRow (x : Mat n 5120) (o : Mat n 1280) (s : Mat 16 n) (w : Mat 1280 5120) (ws b : Mat 1 5120) (r : Fin n)
    (c : Fin 5120) : EReal :=
  x (ix2 r c) + lin (fun k : Fin 1280 => o (ix2 r k)) (fun k => w (ix2 k c)) (s (ix2 0 r)) (ws (ix2 0 c)) (b (ix2 0 c))

/-- The second layer norm of a row. -/
@[irreducible] def normRow (g b : Mat 1 5120) (h : Fin 5120 → EReal) : Fin 5120 → EReal :=
  lnorm h (fun k => g (ix2 0 k)) (fun k => b (ix2 0 k))

/-- The gelu of the first linear layer of a row's codes. -/
@[irreducible] def gRow (w : Mat 5120 3456) (ws b : Mat 1 3456) (s : EReal) (a : Fin 5120 → EReal) (c : Fin 3456) : EReal :=
  gelu (lin a (fun k => w (ix2 k c)) s (ws (ix2 0 c)) (b (ix2 0 c)))

/-- The gelu's row from the residual's row: the first linear layer of the codes of its layer norm. -/
def geluRow (g b : Mat 1 5120) (w : Mat 5120 3456) (ws bb : Mat 1 3456) (h : Fin 5120 → EReal) : Fin 3456 → EReal :=
  gRow w ws bb (scale (normRow g b h)) (code (normRow g b h))

theorem hRow_congr {n' : Nat} {x : Mat n 5120} {o : Mat n 1280} {s : Mat 16 n} {w : Mat 1280 5120} {ws b : Mat 1 5120}
    {x' : Mat n' 5120} {o' : Mat n' 1280} {s' : Mat 16 n'} {w' : Mat 1280 5120} {ws' b' : Mat 1 5120} {r : Fin n} {r' : Fin n'}
    (hx : ∀ k, x (ix2 r k) = x' (ix2 r' k)) (ho : ∀ k, o (ix2 r k) = o' (ix2 r' k)) (hs : ∀ k, s (ix2 k r) = s' (ix2 k r'))
    (hw : w = w') (hws : ws = ws') (hb : b = b') : hRow x o s w ws b r = hRow x' o' s' w' ws' b' r' := by
  subst hw hws hb
  funext c
  rw [hRow, hRow, hx, hs]
  simp only [ho]

/-- The four results of the call, element by element. -/
def hAll (x : Mat n 5120) (o : Mat n 1280) (s : Mat 16 n) (w : Mat 1280 5120) (ws b : Mat 1 5120) : Mat n 5120 := fun i =>
  hRow x o s w ws b (i 0) (i 1)

def aAll (x : Mat n 5120) (o : Mat n 1280) (s : Mat 16 n) (w : Mat 1280 5120) (ws b g gb : Mat 1 5120) : Mat n 5120 := fun i =>
  code (normRow g gb (hRow x o s w ws b (i 0))) (i 1)

def gAll (x : Mat n 5120) (o : Mat n 1280) (s : Mat 16 n) (w : Mat 1280 5120) (ws b g gb : Mat 1 5120) (w1 : Mat 5120 3456)
    (ws1 b1 : Mat 1 3456) : Mat n 3456 := fun i =>
  code (geluRow g gb w1 ws1 b1 (hRow x o s w ws b (i 0))) (i 1)

def sAll (x : Mat n 5120) (o : Mat n 1280) (s : Mat 16 n) (w : Mat 1280 5120) (ws b g gb : Mat 1 5120) (w1 : Mat 5120 3456)
    (ws1 b1 : Mat 1 3456) : Mat 16 n := fun i =>
  pack2 (scale (normRow g gb (hRow x o s w ws b (i 1)))) (scale (geluRow g gb w1 ws1 b1 (hRow x o s w ws b (i 1)))) (i 0)

end MlpOne

end Cert.Layer

end
-- ==== Proof.LayerQkv.lean ====
/- The first call's mathematics over extended reals, one element at a time. -/
module

public import proofs.«01_k».proof.Proof.Layer

@[expose] public section

noncomputable section

namespace Cert.Layer

open Idealize.ShloMosaic

/-- Column `c` of head `h` among the heads' columns. -/
def headCol (h : Fin 14) (c : Fin 128) : Fin 1792 := ⟨h.val * 128 + c.val, by omega⟩

/-- Head `h` of the first linear layer of a row's codes. -/
@[irreducible] def qkvRow (w : Mat 5120 1792) (ws b : Mat 1 1792) (s : EReal) (a : Fin 5120 → EReal) (h : Fin 14) (c : Fin 128) :
    EReal :=
  lin a (fun k => w (ix2 k (headCol h c))) s (ws (ix2 0 (headCol h c))) (b (ix2 0 (headCol h c)))

theorem qkvRow_at (w : Mat 5120 1792) (ws b : Mat 1 1792) (s : EReal) (a : Fin 5120 → EReal) (h : Fin 14) (c : Fin 128)
    (j : Fin 1792) (e : headCol h c = j) :
    qkvRow w ws b s a h c = lin a (fun k => w (ix2 k j)) s (ws (ix2 0 j)) (b (ix2 0 j)) := by
  unfold qkvRow; subst e; rfl

theorem lin_congr {n : Nat} {a w w' : Fin n → EReal} {s ws ws' b b' : EReal} (hw : ∀ k, w k = w' k) (hs : ws = ws') (hb : b = b') :
    lin a w s ws b = lin a w' s ws' b' := by
  rw [funext hw, hs, hb]

/-- Head `h` of the first linear layer of the codes of the row's layer norm. -/
def headRow (g gb : Mat 1 5120) (w : Mat 5120 1792) (ws b : Mat 1 1792) (x : Fin 5120 → EReal) : Fin 14 → Fin 128 → EReal :=
  qkvRow w ws b (scale (normRow g gb x)) (code (normRow g gb x))

/-- The head that column `c` lies in, of the heads from `o` on laid side by side. -/
def hd (o K : Nat) (hK : o * 128 + K ≤ 1792) (c : Fin K) : Fin 14 := ⟨o + c.val / 128, by omega⟩

/-- The entry of its head that column `c` is. -/
def ln {K : Nat} (c : Fin K) : Fin 128 := ⟨c.val % 128, Nat.mod_lt _ (by decide)⟩

/-- The scale of the row first, the heads' fourteen scales behind it, zero last. -/
def pack15 (s0 : EReal) (t : Fin 14 → EReal) (k : Fin 16) : EReal :=
  if k.val = 0 then s0 else if h : k.val - 1 < 14 then t ⟨k.val - 1, h⟩ else 0

section Results

variable {n : Nat} (z : Fin n → Fin 14 → Fin 128 → EReal)

/-- The codes of the rows' layer norms. -/
def normCodes (x : Mat n 5120) (g gb : Mat 1 5120) : Mat n 5120 := fun i => code (normRow g gb fun k => x (ix2 (i 0) k)) (i 1)

/-- The codes of the heads from `o` on, side by side. -/
def headCodes (o K : Nat) (hK : o * 128 + K ≤ 1792) : Mat n K := fun i => code (z (i 0) (hd o K hK (i 1))) (ln (i 1))

/-- The values of the last two heads brought back from their codes, transposed. -/
def valuesT : Mat 256 n := fun i =>
  code (z (i 1) (hd 12 256 (by decide) (i 0))) (ln (i 0)) * scale (z (i 1) (hd 12 256 (by decide) (i 0)))

/-- The scales of the two key heads, each repeated along its head. -/
def keyScales : Mat n 256 := fun i => scale (z (i 0) (hd 10 256 (by decide) (i 1)))

/-- All scales of a row, packed. -/
def rowScales (s : Fin n → EReal) : Mat 16 n := fun i => pack15 (s (i 1)) (fun h => scale (z (i 1) h)) (i 0)

theorem hd_eq {o K : Nat} (hK : o * 128 + K ≤ 1792) (c : Fin K) (h : Fin 14) (l : Fin 128) (e : o * 128 + c.val = h.val * 128 + l.val) :
    hd o K hK c = h ∧ ln c = l :=
  ⟨Fin.ext (by show o + c.val / 128 = h.val; omega), Fin.ext (by show c.val % 128 = l.val; omega)⟩

theorem headCodes_at {o K : Nat} (hK : o * 128 + K ≤ 1792) (r : Fin n) (c : Fin K) (h : Fin 14) (l : Fin 128)
    (e : o * 128 + c.val = h.val * 128 + l.val) : headCodes z o K hK (ix2 r c) = code (z r h) l := by
  show code (z r (hd o K hK c)) (ln c) = _
  rw [(hd_eq hK c h l e).1, (hd_eq hK c h l e).2]

theorem valuesT_at (r : Fin n) (c : Fin 256) (h : Fin 14) (l : Fin 128) (e : 12 * 128 + c.val = h.val * 128 + l.val) :
    valuesT z (ix2 c r) = code (z r h) l * scale (z r h) := by
  show code (z r (hd 12 256 _ c)) (ln c) * scale (z r (hd 12 256 _ c)) = _
  rw [(hd_eq (by decide) c h l e).1, (hd_eq (by decide) c h l e).2]

theorem keyScales_at (r : Fin n) (c : Fin 256) (h : Fin 14) (l : Fin 128) (e : 10 * 128 + c.val = h.val * 128 + l.val) :
    keyScales z (ix2 r c) = scale (z r h) := by
  show scale (z r (hd 10 256 _ c)) = _
  rw [(hd_eq (by decide) c h l e).1]

end Results

/-! The seven results, from the six arguments. -/

section All

variable {n : Nat} (x : Mat n 5120) (g gb : Mat 1 5120) (w : Mat 5120 1792) (ws b : Mat 1 1792)

/-- The heads of every row. -/
def rowsZ (r : Fin n) : Fin 14 → Fin 128 → EReal := headRow g gb w ws b fun k => x (ix2 r k)

/-- The scale of every row's layer norm. -/
def rowsS (r : Fin n) : EReal := scale (normRow g gb fun k => x (ix2 r k))

def qAll : Mat n 1280 := headCodes (rowsZ x g gb w ws b) 0 1280 (by decide)
def kAll : Mat n 256 := headCodes (rowsZ x g gb w ws b) 10 256 (by decide)
def vAll : Mat n 256 := headCodes (rowsZ x g gb w ws b) 12 256 (by decide)
def vtAll : Mat 256 n := valuesT (rowsZ x g gb w ws b)
def ksAll : Mat n 256 := keyScales (rowsZ x g gb w ws b)
def scAll : Mat 16 n := rowScales (rowsZ x g gb w ws b) (rowsS x g gb)

end All

end Cert.Layer

end
-- ==== Proof.QkvBlock.lean ====
/- What the first call (`qkv`) leaves in its output blocks, read element by element. -/
module

public import proofs.«01_k».proof.Proof.LayerQkv
public import proofs.«01_k».proof.Proof.Gen.QkvIdeal.Value

@[expose] public section

noncomputable section

namespace Cert.QkvIdeal.Value

open Cert.QkvIdeal Cert.QkvIdeal.Gen Cert.Layer Idealize.ShloMosaic Idealize.ShloMosaic.TcCoe Idealize.SL.Sem

/-! ## The payloads -/

section Norm

variable (x : Vec Ideal S256x5120 .bf16) (g b : Vec Ideal S1x5120 .f32)

theorem norm_apply (r : Fin 256) (c : Fin 5120) : k0_pay2 x g b (ix2 r c) = normRow g b (fun k => x (ix2 r k)) c := by
  pointwise [k0_pay2, normRow, lnorm, mean]

theorem expo_eq : k0_pay3 x g b = expoKernel (absmaxV reduces_S256x5120_S256 shapeCasts_S256_S256x1 (k0_pay2 x g b)) := rfl

theorem expo_apply (r : Fin 256) : k0_pay3 x g b (ix2 r 0) = expo (absmax (normRow g b fun k => x (ix2 r k))) := by
  rw [expo_eq, expoKernel_apply, absmaxV_apply (.inl rfl)]
  simp only [norm_apply]

/-- The codes of the block's rows. -/
def aBlk : Vec Ideal S256x5120 .fp8e4m3 :=
  k0_pay5 (k0_pay2 x g b) (k0_pay3 x g b) (Scalar.ofBits (F := Ideal) .f32 0x00000000#32)

theorem code_eq : aBlk x g b = codeV broadcasts_S256x1_S256x5120 (k0_pay2 x g b) (k0_pay3 x g b) := rfl

theorem code_apply (r : Fin 256) (c : Fin 5120) : aBlk x g b (ix2 r c) = code (normRow g b fun k => x (ix2 r k)) c := by
  rw [code_eq, codeV_apply (.inl rfl), norm_apply, expo_apply, code]

theorem scale_eq : k0_pay4 x g b = exp2 (k0_pay3 x g b) := rfl

theorem scale_apply (r : Fin 256) : k0_pay4 x g b (ix2 r 0) = scale (normRow g b fun k => x (ix2 r k)) := by
  rw [scale_eq, exp2_apply, expo_apply, scale]

end Norm

/-! The heads are one function on the left and one on the right half of a product, cut differently by the printer. -/

/-- The exponents of a head's rows. -/
def ex (v : FVec Ideal S256x128 .f32) : FVec Ideal S256x1 .f32 :=
  expoKernel (absmaxV reduces_S256x128_S256 shapeCasts_S256_S256x1 v)

/-- The codes of a head's rows. -/
def cd (v : FVec Ideal S256x128 .f32) : FVec Ideal S256x128 .fp8e4m3 := codeV broadcasts_S256x1_S256x128 v (ex v)

/-- The scales of a head's rows. -/
def sc (v : FVec Ideal S256x128 .f32) : FVec Ideal S256x1 .f32 := exp2 (ex v)

theorem ex_apply (v : FVec Ideal S256x128 .f32) (r : Fin 256) : ex v (ix2 r 0) = expo (absmax fun k => v (ix2 r k)) := by
  rw [ex, expoKernel_apply, absmaxV_apply (.inl rfl)]

theorem cd_apply (v : FVec Ideal S256x128 .f32) (r : Fin 256) (c : Fin 128) : cd v (ix2 r c) = code (fun k => v (ix2 r k)) c := by
  rw [cd, codeV_apply (.inl rfl), ex_apply, code]

theorem sc_apply (v : FVec Ideal S256x128 .f32) (r : Fin 256) : sc v (ix2 r 0) = scale fun k => v (ix2 r k) := by
  rw [sc, exp2_apply, ex_apply, scale]

section Heads

variable (s : FVec Ideal S256x1 .f32) (a : Vec Ideal S256x5120 .fp8e4m3) (w : Vec Ideal S5120x256 .fp8e4m3)
  (p : FVec Ideal S256x256 .f32) (ws b : Vec Ideal S1x128 .f32)

theorem pay9_8 : k0_pay9 (k0_pay8 s a w ws b) = sc (k0_pay7 s a w ws b) := rfl
theorem pay10_8 : k0_pay10 (k0_pay7 s a w ws b) (k0_pay8 s a w ws b) = cd (k0_pay7 s a w ws b) := rfl
theorem pay13_eq : k0_pay13 s p ws b = sc (k0_pay11 s p ws b) := rfl
theorem pay15_eq : k0_pay15 (k0_pay14 s p ws b) = cd (k0_pay11 s p ws b) := rfl
theorem pay16_eq : k0_pay16 a w = k0_pay6 a w := rfl
theorem pay19_eq : k0_pay19 s a w ws b = sc (k0_pay7 s a w ws b) := rfl
theorem pay21_eq : k0_pay21 (k0_pay17 s a w ws b) (k0_pay20 s a w ws b) = cd (k0_pay7 s a w ws b) := rfl
theorem pay24_eq : k0_pay24 s p ws b = sc (k0_pay11 s p ws b) := rfl
theorem pay27_eq : k0_pay27 (k0_pay25 s p ws b) k0_pay26 = cd (k0_pay11 s p ws b) := rfl
theorem pay28_eq : k0_pay28 a w = k0_pay6 a w := rfl
theorem pay31_eq : k0_pay31 s a w ws b = sc (k0_pay7 s a w ws b) := rfl
theorem pay34_eq : k0_pay34 (k0_pay32 s a w ws b) (Scalar.ofBits (F := Ideal) .f32 0x43E00000#32) k0_pay33
    = cd (k0_pay7 s a w ws b) := rfl
theorem pay37_eq : k0_pay37 s p ws b = sc (k0_pay11 s p ws b) := rfl
theorem pay38_eq : k0_pay38 s p ws b = cd (k0_pay11 s p ws b) := rfl
theorem pay39_eq : k0_pay39 a w = k0_pay6 a w := rfl
theorem pay42_eq : k0_pay42 s a w ws b = sc (k0_pay7 s a w ws b) := rfl
theorem pay43_eq : k0_pay43 s a w ws b = cd (k0_pay7 s a w ws b) := rfl
theorem pay46_eq : k0_pay46 s p ws b = sc (k0_pay11 s p ws b) := rfl
theorem pay47_eq : k0_pay47 s p ws b = cd (k0_pay11 s p ws b) := rfl
theorem pay52_eq : k0_pay52 s (k0_pay48 a) w ws b = sc (k0_pay7 s a w ws b) := rfl
theorem pay53_eq : k0_pay53 s (k0_pay48 a) w ws b = cd (k0_pay7 s a w ws b) := rfl
theorem pay58_eq : k0_pay58 (k0_pay54 (k0_pay48 a) w) (k0_pay55 s) ws b = sc (k0_pay11 s (k0_pay6 a w) ws b) := rfl
theorem pay59_eq : k0_pay59 (k0_pay54 (k0_pay48 a) w) (k0_pay55 s) ws b = cd (k0_pay11 s (k0_pay6 a w) ws b) := rfl
theorem pay63_eq : k0_pay63 s (k0_pay60 a w) ws b = sc (k0_pay7 s a w ws b) := rfl
theorem pay64_eq : k0_pay64 s (k0_pay60 a w) ws b = cd (k0_pay7 s a w ws b) := rfl

/-- A head's scales, each repeated along the head. -/
def rep (t : FVec Ideal S256x1 .f32) : FVec Ideal S256x128 .f32 :=
  broadcastTo S256x128 (shapeCast S256x1 t shapeCasts_S256x1_S256x1) broadcasts_S256x1_S256x128

theorem rep_apply (t : FVec Ideal S256x1 .f32) (r : Fin 256) (c : Fin 128) : rep t (ix2 r c) = t (ix2 r 0) := by
  pointwise [rep]

theorem pay65_eq : k0_pay65 s (k0_pay60 a w) ws b = rep (sc (k0_pay7 s a w ws b)) := rfl
theorem pay69_eq : k0_pay69 s (k0_pay66 (k0_pay60 a w)) ws b = sc (k0_pay11 s (k0_pay6 a w) ws b) := rfl
theorem pay70_eq : k0_pay70 s (k0_pay66 (k0_pay60 a w)) ws b = cd (k0_pay11 s (k0_pay6 a w) ws b) := rfl
theorem pay71_eq : k0_pay71 s (k0_pay66 (k0_pay60 a w)) ws b = rep (sc (k0_pay11 s (k0_pay6 a w) ws b)) := rfl
theorem pay72_eq : k0_pay72 a w = k0_pay6 a w := rfl
theorem pay75_eq : k0_pay75 s a w ws b = sc (k0_pay7 s a w ws b) := rfl
theorem pay76_eq : k0_pay76 s a w ws b = cd (k0_pay7 s a w ws b) := rfl
theorem pay80_eq : k0_pay80 s p ws b = sc (k0_pay11 s p ws b) := rfl
theorem pay81_eq : k0_pay81 s p ws b = cd (k0_pay11 s p ws b) := rfl
theorem pay82_eq : k0_pay82 (F := Ideal) = k0_pay77 := rfl

theorem value_apply (t : FVec Ideal S256x1 .f32) (q : FVec Ideal S256x128 .fp8e4m3) (r : Fin 256) (c : Fin 128) :
    k0_pay77 t q (ix2 c r) = q (ix2 r c) * t (ix2 r 0) := by
  pointwise [k0_pay77]

theorem left_apply (r : Fin 256) (c : Fin 128) : k0_pay7 s a w ws b (ix2 r c)
    = lin (fun k => a (ix2 r k)) (fun k => w (ix2 k ⟨c.val, by omega⟩)) (s (ix2 r 0)) (ws (ix2 0 c)) (b (ix2 0 c)) := by
  pointwise [k0_pay7, k0_pay6, lin]

theorem right_apply (r : Fin 256) (c : Fin 128) : k0_pay11 s (k0_pay6 a w) ws b (ix2 r c)
    = lin (fun k => a (ix2 r k)) (fun k => w (ix2 k ⟨128 + c.val, by omega⟩)) (s (ix2 r 0)) (ws (ix2 0 c)) (b (ix2 0 c)) := by
  pointwise [k0_pay11, k0_pay6, lin]

end Heads

/-! The packed scales: lane `j` of a row is its `j`-th scale. -/

theorem pack_apply (s : FVec Ideal S256x1 .f32) (t : Fin 14 → FVec Ideal S256x1 .f32) (k : Fin 16) (r : Fin 256) :
    k0_pay1 (k0_pay86 (t 7) (t 8) (t 9) (t 10) (t 11) (t 12) (t 13) (iota .tc S256x128 32 [1] iota_S256x128_d1_w32)
      (k0_pay83 s (t 0) (t 1) (t 2) (t 3) (t 4) (t 5)) k0_pay84 (k0_pay85 (t 6))) (ix2 k r)
      = pack15 (s (ix2 r 0)) (fun h => t h (ix2 r 0)) k := by
  fin_cases k <;> (pointwise [k0_pay1, k0_pay86, k0_pay83, k0_pay84, k0_pay85, pack15] <;> rfl)

/-! ## The heads' blocks -/

section Ld

theorem ld_apply {n k n' k' : Nat} {τ : EltTy} (x : Vec Ideal ⟨2, ![n, k]⟩ τ) (o : Nat)
    (h : ∀ a, (![0, o] : Fin 2 → Nat) a + (![n', k'] : Fin 2 → Nat) a ≤ (⟨2, ![n, k]⟩ : Shape).size a) (r : Fin n') (c : Fin k')
    (hr : r.val < n) (hc : o + c.val < k) :
    View.ld x (Rect.unit (s := ⟨2, ![n, k]⟩) ![0, o] ![n', k'] h) (ix2 r c) = x (ix2 ⟨r.val, hr⟩ ⟨o + c.val, hc⟩) :=
  congrArg x (by
    funext a; apply Fin.ext
    match a with
    | ⟨0, _⟩ => show 0 + 1 * r.val = r.val; omega
    | ⟨1, _⟩ => show o + 1 * c.val = o + c.val; omega)

end Ld

section Blocks

variable (x3 : Vec Ideal S5120x1792 .fp8e4m3) (x4 x5 : Vec Ideal S1x1792 .f32) (s : FVec Ideal S256x1 .f32)
  (a : Vec Ideal S256x5120 .fp8e4m3)

/-- Head `h` of a block, from the codes and their scales. -/
@[irreducible] def head (h : Fin 14) : FVec Ideal S256x128 .f32 := fun y =>
  qkvRow x3 x4 x5 (s (ix2 (y 0) 0)) (fun k => a (ix2 (y 0) k)) h (y 1)

theorem head_apply (h : Fin 14) (r : Fin 256) (c : Fin 128) :
    head x3 x4 x5 s a h (ix2 r c) = qkvRow x3 x4 x5 (s (ix2 r 0)) (fun k => a (ix2 r k)) h c := by
  unfold head; rfl

theorem left (h : Fin 14) (o : Nat) (ho : o = h.val * 128)
    (hw : ∀ a, (![0, o] : Fin 2 → Nat) a + S5120x256.size a ≤ S5120x1792.size a)
    (hb : ∀ a, (![0, o] : Fin 2 → Nat) a + S1x128.size a ≤ S1x1792.size a) :
    k0_pay7 s a (View.ld x3 (Rect.unit (s := S5120x1792) ![0, o] S5120x256.size hw)) (View.ld x4 (Rect.unit (s := S1x1792) ![0, o] S1x128.size hb))
      (View.ld x5 (Rect.unit (s := S1x1792) ![0, o] S1x128.size hb)) = head x3 x4 x5 s a h := by
  funext y
  obtain ⟨r, c, rfl⟩ : ∃ (r : Fin 256) (c : Fin 128), y = ix2 r c := ⟨y 0, y 1, eq_ix2 y⟩
  have hc : o + c.val < 1792 := by omega
  have e : (⟨o + c.val, hc⟩ : Fin 1792) = headCol h c := Fin.ext (by show o + c.val = h.val * 128 + c.val; omega)
  refine (left_apply ..).trans (.trans ?_ ((head_apply ..).trans (qkvRow_at x3 x4 x5 _ _ h c _ e.symm)).symm)
  exact lin_congr (fun k => ld_apply x3 o hw k ⟨c.val, by omega⟩ k.isLt hc) (ld_apply x4 o hb 0 c (by decide) hc)
    (ld_apply x5 o hb 0 c (by decide) hc)

theorem right (h : Fin 14) (o o' : Nat) (ho : o + 128 = o') (ho' : o' = h.val * 128)
    (hw : ∀ a, (![0, o] : Fin 2 → Nat) a + S5120x256.size a ≤ S5120x1792.size a)
    (hb : ∀ a, (![0, o'] : Fin 2 → Nat) a + S1x128.size a ≤ S1x1792.size a) :
    k0_pay11 s (k0_pay6 a (View.ld x3 (Rect.unit (s := S5120x1792) ![0, o] S5120x256.size hw)))
      (View.ld x4 (Rect.unit (s := S1x1792) ![0, o'] S1x128.size hb))
      (View.ld x5 (Rect.unit (s := S1x1792) ![0, o'] S1x128.size hb)) = head x3 x4 x5 s a h := by
  funext y
  obtain ⟨r, c, rfl⟩ : ∃ (r : Fin 256) (c : Fin 128), y = ix2 r c := ⟨y 0, y 1, eq_ix2 y⟩
  have hc : o' + c.val < 1792 := by omega
  have hc' : o + (128 + c.val) < 1792 := by omega
  have e : (⟨o' + c.val, hc⟩ : Fin 1792) = headCol h c := Fin.ext (by show o' + c.val = h.val * 128 + c.val; omega)
  have e' : (⟨o + (128 + c.val), hc'⟩ : Fin 1792) = headCol h c :=
    Fin.ext (by show o + (128 + c.val) = h.val * 128 + c.val; omega)
  refine (right_apply ..).trans (.trans ?_ ((head_apply ..).trans (qkvRow_at x3 x4 x5 _ _ h c _ e.symm)).symm)
  exact lin_congr (fun k => (ld_apply x3 o hw k ⟨128 + c.val, by omega⟩ k.isLt hc').trans (congrArg (fun j => x3 (ix2 k j)) (e'.trans e.symm)))
    (ld_apply x4 o' hb 0 c (by decide) hc) (ld_apply x5 o' hb 0 c (by decide) hc)

/-- The rows of a block's heads. -/
def z (r : Fin 256) (h : Fin 14) : Fin 128 → EReal := qkvRow x3 x4 x5 (s (ix2 r 0)) (fun k => a (ix2 r k)) h

theorem cd_head (h : Fin 14) (r : Fin 256) (c : Fin 128) : cd (head x3 x4 x5 s a h) (ix2 r c) = code (z x3 x4 x5 s a r h) c := by
  rw [cd_apply]; simp only [head_apply]; rfl

theorem sc_head (h : Fin 14) (r : Fin 256) : sc (head x3 x4 x5 s a h) (ix2 r 0) = scale (z x3 x4 x5 s a r h) := by
  rw [sc_apply]; simp only [head_apply]; rfl

/-- One store of a head's codes. -/
abbrev codePiece (K o : Nat) (h : Fin 14)
    (hi : ∀ a, (![0, o] : Fin 2 → Nat) a + S256x128.size a ≤ (⟨2, ![256, K]⟩ : Shape).size a) :
    View.Piece (Elt Ideal) ⟨2, ![256, K]⟩ .fp8e4m3 :=
  ⟨Rect.unit (s := ⟨2, ![256, K]⟩) ![0, o] S256x128.size hi, cd (head x3 x4 x5 s a h)⟩

theorem codePiece_apply (K o f : Nat) (h : Fin 14)
    (hi : ∀ a, (![0, o] : Fin 2 → Nat) a + S256x128.size a ≤ (⟨2, ![256, K]⟩ : Shape).size a) (hK : f * 128 + K ≤ 1792)
    (e : f * 128 + o = h.val * 128) (x : S256x128.Idx) :
    cd (head x3 x4 x5 s a h) x
      = headCodes (z x3 x4 x5 s a) f K hK ((Rect.unit (s := ⟨2, ![256, K]⟩) ![0, o] S256x128.size hi).emb x) := by
  obtain ⟨r, c, rfl⟩ : ∃ (r : Fin 256) (c : Fin 128), x = ix2 r c := ⟨x 0, x 1, eq_ix2 x⟩
  have hoK : o + 128 ≤ K := hi 1
  have hc : o + c.val < K := by omega
  have e1 : (Rect.unit (s := ⟨2, ![256, K]⟩) ![0, o] S256x128.size hi).emb (ix2 r c) = ix2 r ⟨o + c.val, hc⟩ := by
    funext a; apply Fin.ext
    match a with
    | ⟨0, _⟩ => show 0 + 1 * r.val = r.val; omega
    | ⟨1, _⟩ => show o + 1 * c.val = o + c.val; omega
  rw [e1, cd_head]
  exact (headCodes_at _ hK r ⟨o + c.val, hc⟩ h c (by show f * 128 + (o + c.val) = _; omega)).symm

/-- The queries' ten stores, the last first. -/
def qPieces : List (View.Piece (Elt Ideal) S256x1280 .fp8e4m3) :=
  [codePiece x3 x4 x5 s a 1280 1152 9 inb_S256x1280_S256x128_0_1152,
   codePiece x3 x4 x5 s a 1280 1024 8 inb_S256x1280_S256x128_0_1024,
   codePiece x3 x4 x5 s a 1280 896 7 inb_S256x1280_S256x128_0_896,
   codePiece x3 x4 x5 s a 1280 768 6 inb_S256x1280_S256x128_0_768,
   codePiece x3 x4 x5 s a 1280 640 5 inb_S256x1280_S256x128_0_640,
   codePiece x3 x4 x5 s a 1280 512 4 inb_S256x1280_S256x128_0_512,
   codePiece x3 x4 x5 s a 1280 384 3 inb_S256x1280_S256x128_0_384,
   codePiece x3 x4 x5 s a 1280 256 2 inb_S256x1280_S256x128_0_256,
   codePiece x3 x4 x5 s a 1280 128 1 inb_S256x1280_S256x128_0_128,
   codePiece x3 x4 x5 s a 1280 0 0 inb_S256x1280_S256x128_0_0]

theorem qCanon : View.canon (qPieces x3 x4 x5 s a) = headCodes (z x3 x4 x5 s a) 0 1280 (by decide) := by
  funext y
  refine View.canon_apply_of_pieces (Val := Elt Ideal) (headCodes (z x3 x4 x5 s a) 0 1280 (by decide)) _ ?_ y
    (View.cover_of_tiledL (qPieces x3 x4 x5 s a) S256x128.size (by sl_kernel_rfl) y)
  intro p hp
  simp only [qPieces, List.mem_cons, List.not_mem_nil, or_false] at hp
  rcases hp with rfl | rfl | rfl | rfl | rfl | rfl | rfl | rfl | rfl | rfl
  all_goals exact codePiece_apply x3 x4 x5 s a 1280 _ 0 _ (by decide) (by decide) rfl

/-- The keys' two stores. -/
def kPieces : List (View.Piece (Elt Ideal) S256x256 .fp8e4m3) :=
  [codePiece x3 x4 x5 s a 256 128 11 inb_S256x256_S256x128_0_128,
   codePiece x3 x4 x5 s a 256 0 10 inb_S256x256_S256x128_0_0]

theorem kCanon : View.canon (kPieces x3 x4 x5 s a) = headCodes (z x3 x4 x5 s a) 10 256 (by decide) := by
  funext y
  refine View.canon_apply_of_pieces (Val := Elt Ideal) (headCodes (z x3 x4 x5 s a) 10 256 (by decide)) _ ?_ y
    (View.cover_of_tiledL (kPieces x3 x4 x5 s a) S256x128.size (by sl_kernel_rfl) y)
  intro p hp
  simp only [kPieces, List.mem_cons, List.not_mem_nil, or_false] at hp
  rcases hp with rfl | rfl
  all_goals exact codePiece_apply x3 x4 x5 s a 256 _ 10 _ (by decide) (by decide) rfl

/-- The values' two stores. -/
def vPieces : List (View.Piece (Elt Ideal) S256x256 .fp8e4m3) :=
  [codePiece x3 x4 x5 s a 256 128 13 inb_S256x256_S256x128_0_128,
   codePiece x3 x4 x5 s a 256 0 12 inb_S256x256_S256x128_0_0]

theorem vCanon : View.canon (vPieces x3 x4 x5 s a) = headCodes (z x3 x4 x5 s a) 12 256 (by decide) := by
  funext y
  refine View.canon_apply_of_pieces (Val := Elt Ideal) (headCodes (z x3 x4 x5 s a) 12 256 (by decide)) _ ?_ y
    (View.cover_of_tiledL (vPieces x3 x4 x5 s a) S256x128.size (by sl_kernel_rfl) y)
  intro p hp
  simp only [vPieces, List.mem_cons, List.not_mem_nil, or_false] at hp
  rcases hp with rfl | rfl
  all_goals exact codePiece_apply x3 x4 x5 s a 256 _ 12 _ (by decide) (by decide) rfl

/-- The transposed values' two stores. -/
def vtPieces : List (View.Piece (Elt Ideal) S256x256 .bf16) :=
  [⟨Rect.unit (s := S256x256) ![128, 0] S128x256.size inb_S256x256_S128x256_128_0,
    k0_pay77 (sc (head x3 x4 x5 s a 13)) (cd (head x3 x4 x5 s a 13))⟩,
   ⟨Rect.unit (s := S256x256) ![0, 0] S128x256.size inb_S256x256_S128x256_0_0,
    k0_pay77 (sc (head x3 x4 x5 s a 12)) (cd (head x3 x4 x5 s a 12))⟩]

theorem vtPiece_apply (o : Nat) (h : Fin 14) (hi : ∀ a, (![o, 0] : Fin 2 → Nat) a + S128x256.size a ≤ S256x256.size a)
    (e : 12 * 128 + o = h.val * 128) (x : S128x256.Idx) :
    k0_pay77 (sc (head x3 x4 x5 s a h)) (cd (head x3 x4 x5 s a h)) x
      = valuesT (z x3 x4 x5 s a) ((Rect.unit (s := S256x256) ![o, 0] S128x256.size hi).emb x) := by
  obtain ⟨c, r, rfl⟩ : ∃ (c : Fin 128) (r : Fin 256), x = ix2 c r := ⟨x 0, x 1, eq_ix2 x⟩
  have hoK : o + 128 ≤ 256 := hi 0
  have hc : o + c.val < 256 := by omega
  have e1 : (Rect.unit (s := S256x256) ![o, 0] S128x256.size hi).emb (ix2 c r) = ix2 ⟨o + c.val, hc⟩ r := by
    funext a; apply Fin.ext
    match a with
    | ⟨0, _⟩ => show o + 1 * c.val = o + c.val; omega
    | ⟨1, _⟩ => show 0 + 1 * r.val = r.val; omega
  rw [e1, value_apply, cd_head, sc_head]
  exact (valuesT_at _ r ⟨o + c.val, hc⟩ h c (by show 12 * 128 + (o + c.val) = _; omega)).symm

theorem vtCanon : View.canon (vtPieces x3 x4 x5 s a) = valuesT (z x3 x4 x5 s a) := by
  funext y
  refine View.canon_apply_of_pieces (Val := Elt Ideal) (valuesT (z x3 x4 x5 s a)) _ ?_ y
    (View.cover_of_tiledL (vtPieces x3 x4 x5 s a) S128x256.size (by sl_kernel_rfl) y)
  intro p hp
  simp only [vtPieces, List.mem_cons, List.not_mem_nil, or_false] at hp
  rcases hp with rfl | rfl
  all_goals exact vtPiece_apply x3 x4 x5 s a _ _ (by decide) rfl

/-- The key scales' two stores. -/
def ksPieces : List (View.Piece (Elt Ideal) S256x256 .f32) :=
  [⟨Rect.unit (s := S256x256) ![0, 128] S256x128.size inb_S256x256_S256x128_0_128, rep (sc (head x3 x4 x5 s a 11))⟩,
   ⟨Rect.unit (s := S256x256) ![0, 0] S256x128.size inb_S256x256_S256x128_0_0, rep (sc (head x3 x4 x5 s a 10))⟩]

theorem ksPiece_apply (o : Nat) (h : Fin 14) (hi : ∀ a, (![0, o] : Fin 2 → Nat) a + S256x128.size a ≤ S256x256.size a)
    (e : 10 * 128 + o = h.val * 128) (x : S256x128.Idx) :
    rep (sc (head x3 x4 x5 s a h)) x
      = keyScales (z x3 x4 x5 s a) ((Rect.unit (s := S256x256) ![0, o] S256x128.size hi).emb x) := by
  obtain ⟨r, c, rfl⟩ : ∃ (r : Fin 256) (c : Fin 128), x = ix2 r c := ⟨x 0, x 1, eq_ix2 x⟩
  have hoK : o + 128 ≤ 256 := hi 1
  have hc : o + c.val < 256 := by omega
  have e1 : (Rect.unit (s := S256x256) ![0, o] S256x128.size hi).emb (ix2 r c) = ix2 r ⟨o + c.val, hc⟩ := by
    funext a; apply Fin.ext
    match a with
    | ⟨0, _⟩ => show 0 + 1 * r.val = r.val; omega
    | ⟨1, _⟩ => show o + 1 * c.val = o + c.val; omega
  rw [e1, rep_apply, sc_head]
  exact (keyScales_at _ r ⟨o + c.val, hc⟩ h c (by show 10 * 128 + (o + c.val) = _; omega)).symm

theorem ksCanon : View.canon (ksPieces x3 x4 x5 s a) = keyScales (z x3 x4 x5 s a) := by
  funext y
  refine View.canon_apply_of_pieces (Val := Elt Ideal) (keyScales (z x3 x4 x5 s a)) _ ?_ y
    (View.cover_of_tiledL (ksPieces x3 x4 x5 s a) S256x128.size (by sl_kernel_rfl) y)
  intro p hp
  simp only [ksPieces, List.mem_cons, List.not_mem_nil, or_false] at hp
  rcases hp with rfl | rfl
  all_goals exact ksPiece_apply x3 x4 x5 s a _ _ (by decide) rfl

/-- The packed scales of a block. -/
def scBlk : Vec Ideal S16x256 .f32 :=
  k0_pay1 (k0_pay86 (sc (head x3 x4 x5 s a 7)) (sc (head x3 x4 x5 s a 8)) (sc (head x3 x4 x5 s a 9)) (sc (head x3 x4 x5 s a 10))
    (sc (head x3 x4 x5 s a 11)) (sc (head x3 x4 x5 s a 12)) (sc (head x3 x4 x5 s a 13))
    (iota .tc S256x128 32 [1] iota_S256x128_d1_w32)
    (k0_pay83 s (sc (head x3 x4 x5 s a 0)) (sc (head x3 x4 x5 s a 1)) (sc (head x3 x4 x5 s a 2)) (sc (head x3 x4 x5 s a 3))
      (sc (head x3 x4 x5 s a 4)) (sc (head x3 x4 x5 s a 5))) k0_pay84 (k0_pay85 (sc (head x3 x4 x5 s a 6))))

theorem scBlk_eq : scBlk x3 x4 x5 s a = rowScales (z x3 x4 x5 s a) fun r => s (ix2 r 0) := by
  funext y
  obtain ⟨k, r, rfl⟩ : ∃ (k : Fin 16) (r : Fin 256), y = ix2 k r := ⟨y 0, y 1, eq_ix2 y⟩
  refine (pack_apply s (fun h => sc (head x3 x4 x5 s a h)) k r).trans ?_
  simp only [sc_head]
  rfl

end Blocks

/-! ## The seven outputs -/

theorem zero2 : (![0, 0] : Fin 2 → Nat) = fun _ => 0 := funext fun a => by fin_cases a <;> rfl

theorem ld_row (x : Vec Ideal S1x5120 .f32) :
    View.ld x (Rect.unit (s := S1x5120) ![0, 0] S1x5120.size inb_S1x5120_S1x5120_0_0) = x := View.ld_unit_zero zero2 _ _

theorem ld_in (x : Vec Ideal S256x5120 .bf16) :
    View.ld x (Rect.unit (s := S256x5120) ![0, 0] S256x5120.size inb_S256x5120_S256x5120_0_0) = x := View.ld_unit_zero zero2 _ _

section Reads

variable (x0 : Vec Ideal S256x5120 .bf16) (x1 x2 : Vec Ideal S1x5120 .f32)

theorem scaleRead : k0_pay4 (View.ld x0 (Rect.unit (s := S256x5120) ![0, 0] S256x5120.size inb_S256x5120_S256x5120_0_0))
      (View.ld x1 (Rect.unit (s := S1x5120) ![0, 0] S1x5120.size inb_S1x5120_S1x5120_0_0))
      (View.ld x2 (Rect.unit (s := S1x5120) ![0, 0] S1x5120.size inb_S1x5120_S1x5120_0_0)) = k0_pay4 x0 x1 x2 := by
  rw [ld_in, ld_row, ld_row]

theorem aLd : aBlk (View.ld x0 (Rect.unit (s := S256x5120) ![0, 0] S256x5120.size inb_S256x5120_S256x5120_0_0))
      (View.ld x1 (Rect.unit (s := S1x5120) ![0, 0] S1x5120.size inb_S1x5120_S1x5120_0_0))
      (View.ld x2 (Rect.unit (s := S1x5120) ![0, 0] S1x5120.size inb_S1x5120_S1x5120_0_0)) = aBlk x0 x1 x2 := by
  rw [ld_in, ld_row, ld_row]

/-- The codes read back. -/
theorem aRead (v : View sig .tc .vmem S256x5120 .fp8e4m3) :
    v.readCov (Val := Elt Ideal) [⟨Rect.unit (s := S256x5120) ![0, 0] S256x5120.size inb_S256x5120_S256x5120_0_0, aBlk (View.ld x0 (Rect.unit (s := S256x5120) ![0, 0] S256x5120.size inb_S256x5120_S256x5120_0_0))
      (View.ld x1 (Rect.unit (s := S1x5120) ![0, 0] S1x5120.size inb_S1x5120_S1x5120_0_0))
      (View.ld x2 (Rect.unit (s := S1x5120) ![0, 0] S1x5120.size inb_S1x5120_S1x5120_0_0))⟩]
      (Rect.unit (s := S256x5120) ![0, 0] S256x5120.size inb_S256x5120_S256x5120_0_0).toLoadRect = aBlk x0 x1 x2 :=
  (View.readCov_unit_zero v zero2 _ _).trans (aLd x0 x1 x2)

end Reads

section Outs

set_option maxRecDepth 20000

variable (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x1792 .f32) (harg6 : arg6.IsWhole) (arg7 : Memref sig .tc .vmem S256x5120 .fp8e4m3) (harg7 : arg7.IsWhole) (arg8 : Memref sig .tc .vmem S256x1280 .fp8e4m3) (harg8 : arg8.IsWhole) (arg9 : Memref sig .tc .vmem S256x256 .fp8e4m3) (harg9 : arg9.IsWhole) (arg10 : Memref sig .tc .vmem S256x256 .fp8e4m3) (harg10 : arg10.IsWhole) (arg11 : Memref sig .tc .vmem S256x256 .bf16) (harg11 : arg11.IsWhole) (arg12 : Memref sig .tc .vmem S256x256 .f32) (harg12 : arg12.IsWhole) (arg13 : Memref sig .tc .vmem S16x256 .f32) (harg13 : arg13.IsWhole)
    (x0 : Vec Ideal S256x5120 .bf16) (x1 x2 : Vec Ideal S1x5120 .f32) (x3 : Vec Ideal S5120x1792 .fp8e4m3) (x4 x5 : Vec Ideal S1x1792 .f32)

theorem out6 : out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = aBlk x0 x1 x2 := by
  unfold out0_A_6
  rw [View.read_writes_eq_canon _ _ _ (fun y => cover0_A_6 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  refine (View.canon_unit_zero (S := S256x5120) zero2 _ _).trans ?_
  exact aLd x0 x1 x2

theorem out7 : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = headCodes (z x3 x4 x5 (k0_pay4 x0 x1 x2) (aBlk x0 x1 x2)) 0 1280 (by decide) := by
  unfold out0_A_7
  rw [View.read_writes_eq_canon _ _ _ (fun y => cover0_A_7 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  simp only [left x3 x4 x5 _ _ 0 0 rfl, right x3 x4 x5 _ _ 1 0 128 rfl rfl, left x3 x4 x5 _ _ 2 256 rfl, right x3 x4 x5 _ _ 3 256 384 rfl rfl, left x3 x4 x5 _ _ 4 512 rfl, right x3 x4 x5 _ _ 5 512 640 rfl rfl, left x3 x4 x5 _ _ 6 768 rfl, right x3 x4 x5 _ _ 7 768 896 rfl rfl, left x3 x4 x5 _ _ 8 1024 rfl, right x3 x4 x5 _ _ 9 1024 1152 rfl rfl, left x3 x4 x5 _ _ 10 1280 rfl, right x3 x4 x5 _ _ 11 1280 1408 rfl rfl, left x3 x4 x5 _ _ 12 1536 rfl, right x3 x4 x5 _ _ 13 1536 1664 rfl rfl]
  refine (qCanon x3 x4 x5 _ _).trans ?_
  exact congrArg₂ (fun s a => headCodes (z x3 x4 x5 s a) 0 1280 (by decide)) (scaleRead x0 x1 x2) (aRead x0 x1 x2 arg7.view)

theorem out8 : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = headCodes (z x3 x4 x5 (k0_pay4 x0 x1 x2) (aBlk x0 x1 x2)) 10 256 (by decide) := by
  unfold out0_A_8
  rw [View.read_writes_eq_canon _ _ _ (fun y => cover0_A_8 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  simp only [left x3 x4 x5 _ _ 0 0 rfl, right x3 x4 x5 _ _ 1 0 128 rfl rfl, left x3 x4 x5 _ _ 2 256 rfl, right x3 x4 x5 _ _ 3 256 384 rfl rfl, left x3 x4 x5 _ _ 4 512 rfl, right x3 x4 x5 _ _ 5 512 640 rfl rfl, left x3 x4 x5 _ _ 6 768 rfl, right x3 x4 x5 _ _ 7 768 896 rfl rfl, left x3 x4 x5 _ _ 8 1024 rfl, right x3 x4 x5 _ _ 9 1024 1152 rfl rfl, left x3 x4 x5 _ _ 10 1280 rfl, right x3 x4 x5 _ _ 11 1280 1408 rfl rfl, left x3 x4 x5 _ _ 12 1536 rfl, right x3 x4 x5 _ _ 13 1536 1664 rfl rfl]
  refine (kCanon x3 x4 x5 _ _).trans ?_
  exact congrArg₂ (fun s a => headCodes (z x3 x4 x5 s a) 10 256 (by decide)) (scaleRead x0 x1 x2) (aRead x0 x1 x2 arg7.view)

theorem out9 : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = headCodes (z x3 x4 x5 (k0_pay4 x0 x1 x2) (aBlk x0 x1 x2)) 12 256 (by decide) := by
  unfold out0_A_9
  rw [View.read_writes_eq_canon _ _ _ (fun y => cover0_A_9 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  simp only [left x3 x4 x5 _ _ 0 0 rfl, right x3 x4 x5 _ _ 1 0 128 rfl rfl, left x3 x4 x5 _ _ 2 256 rfl, right x3 x4 x5 _ _ 3 256 384 rfl rfl, left x3 x4 x5 _ _ 4 512 rfl, right x3 x4 x5 _ _ 5 512 640 rfl rfl, left x3 x4 x5 _ _ 6 768 rfl, right x3 x4 x5 _ _ 7 768 896 rfl rfl, left x3 x4 x5 _ _ 8 1024 rfl, right x3 x4 x5 _ _ 9 1024 1152 rfl rfl, left x3 x4 x5 _ _ 10 1280 rfl, right x3 x4 x5 _ _ 11 1280 1408 rfl rfl, left x3 x4 x5 _ _ 12 1536 rfl, right x3 x4 x5 _ _ 13 1536 1664 rfl rfl]
  refine (vCanon x3 x4 x5 _ _).trans ?_
  exact congrArg₂ (fun s a => headCodes (z x3 x4 x5 s a) 12 256 (by decide)) (scaleRead x0 x1 x2) (aRead x0 x1 x2 arg7.view)

theorem out10 : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = valuesT (z x3 x4 x5 (k0_pay4 x0 x1 x2) (aBlk x0 x1 x2)) := by
  unfold out0_A_10
  rw [View.read_writes_eq_canon _ _ _ (fun y => cover0_A_10 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  simp only [left x3 x4 x5 _ _ 0 0 rfl, right x3 x4 x5 _ _ 1 0 128 rfl rfl, left x3 x4 x5 _ _ 2 256 rfl, right x3 x4 x5 _ _ 3 256 384 rfl rfl, left x3 x4 x5 _ _ 4 512 rfl, right x3 x4 x5 _ _ 5 512 640 rfl rfl, left x3 x4 x5 _ _ 6 768 rfl, right x3 x4 x5 _ _ 7 768 896 rfl rfl, left x3 x4 x5 _ _ 8 1024 rfl, right x3 x4 x5 _ _ 9 1024 1152 rfl rfl, left x3 x4 x5 _ _ 10 1280 rfl, right x3 x4 x5 _ _ 11 1280 1408 rfl rfl, left x3 x4 x5 _ _ 12 1536 rfl, right x3 x4 x5 _ _ 13 1536 1664 rfl rfl]
  refine (vtCanon x3 x4 x5 _ _).trans ?_
  exact congrArg₂ (fun s a => valuesT (z x3 x4 x5 s a)) (scaleRead x0 x1 x2) (aRead x0 x1 x2 arg7.view)

theorem out11 : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = keyScales (z x3 x4 x5 (k0_pay4 x0 x1 x2) (aBlk x0 x1 x2)) := by
  unfold out0_A_11
  rw [View.read_writes_eq_canon _ _ _ (fun y => cover0_A_11 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  simp only [left x3 x4 x5 _ _ 0 0 rfl, right x3 x4 x5 _ _ 1 0 128 rfl rfl, left x3 x4 x5 _ _ 2 256 rfl, right x3 x4 x5 _ _ 3 256 384 rfl rfl, left x3 x4 x5 _ _ 4 512 rfl, right x3 x4 x5 _ _ 5 512 640 rfl rfl, left x3 x4 x5 _ _ 6 768 rfl, right x3 x4 x5 _ _ 7 768 896 rfl rfl, left x3 x4 x5 _ _ 8 1024 rfl, right x3 x4 x5 _ _ 9 1024 1152 rfl rfl, left x3 x4 x5 _ _ 10 1280 rfl, right x3 x4 x5 _ _ 11 1280 1408 rfl rfl, left x3 x4 x5 _ _ 12 1536 rfl, right x3 x4 x5 _ _ 13 1536 1664 rfl rfl]
  refine (ksCanon x3 x4 x5 _ _).trans ?_
  exact congrArg₂ (fun s a => keyScales (z x3 x4 x5 s a)) (scaleRead x0 x1 x2) (aRead x0 x1 x2 arg7.view)

theorem out12 : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = rowScales (z x3 x4 x5 (k0_pay4 x0 x1 x2) (aBlk x0 x1 x2)) fun r => k0_pay4 x0 x1 x2 (ix2 r 0) := by
  unfold out0_A_12
  rw [View.read_writes_eq_canon _ _ _ (fun y => cover0_A_12 c i _ _ _ _ _ _ _ _ _ _ _ _ _ _ _ _ _ _ _ _ _ _ _ _ _ _ x0 x1 x2 x3 x4 x5 y)]
  unfold kernelRun0_A; dsimp only; sl_unfold_words
  simp only [View.readAt_eq_ld, harg1.read_unread, harg2.read_unread, harg3.read_unread, harg4.read_unread, harg5.read_unread, harg6.read_unread, pay9_8, pay10_8, pay13_eq, pay15_eq, pay16_eq, pay19_eq, pay21_eq, pay24_eq, pay27_eq, pay28_eq, pay31_eq, pay34_eq, pay37_eq,
    pay38_eq, pay39_eq, pay42_eq, pay43_eq, pay46_eq, pay47_eq, pay52_eq, pay53_eq, pay58_eq, pay59_eq, pay63_eq, pay64_eq, pay65_eq,
    pay69_eq, pay70_eq, pay71_eq, pay72_eq, pay75_eq, pay76_eq, pay80_eq, pay81_eq, pay82_eq]
  simp only [left x3 x4 x5 _ _ 0 0 rfl, right x3 x4 x5 _ _ 1 0 128 rfl rfl, left x3 x4 x5 _ _ 2 256 rfl, right x3 x4 x5 _ _ 3 256 384 rfl rfl, left x3 x4 x5 _ _ 4 512 rfl, right x3 x4 x5 _ _ 5 512 640 rfl rfl, left x3 x4 x5 _ _ 6 768 rfl, right x3 x4 x5 _ _ 7 768 896 rfl rfl, left x3 x4 x5 _ _ 8 1024 rfl, right x3 x4 x5 _ _ 9 1024 1152 rfl rfl, left x3 x4 x5 _ _ 10 1280 rfl, right x3 x4 x5 _ _ 11 1280 1408 rfl rfl, left x3 x4 x5 _ _ 12 1536 rfl, right x3 x4 x5 _ _ 13 1536 1664 rfl rfl]
  refine (View.canon_unit_zero (S := S16x256) zero2 _ _).trans ?_
  refine (scBlk_eq x3 x4 x5 _ _).trans ?_
  exact congrArg₂ (fun s a => rowScales (z x3 x4 x5 s a) fun r => s (ix2 r 0)) (scaleRead x0 x1 x2) (aRead x0 x1 x2 arg7.view)

end Outs

end Cert.QkvIdeal.Value

end
-- ==== Proof.QkvPlain.lean ====
/- The plain reference of the first call (`qkv`): its run, read element by element. -/
module

public import proofs.«01_k».proof.Proof.LayerQkv
public import proofs.«01_k».proof.Proof.Gen.QkvPlainIdeal.Frame
public import Idealize.ShloMosaic.Lib.Pipeline.Value

@[expose] public section

noncomputable section

namespace Cert.QkvPlainIdeal.Value

open Cert.QkvPlainIdeal Cert.QkvPlainIdeal.Gen Cert.Layer Idealize.ShloMosaic Idealize.ShloMosaic.TcCoe Idealize.SL.Sem

/-! ## The layer norm and its codes -/

section Norm

variable (x : Vec Ideal S8192x5120 .bf16) (g gb : Vec Ideal S1x5120 .f32)

theorem norm_apply (r : Fin 8192) (c : Fin 5120) : k0_pay1 x g gb (ix2 r c) = normRow g gb (fun k => x (ix2 r k)) c := by
  pointwise [k0_pay1, normRow, lnorm, mean]

theorem norm_row (r : Fin 8192) : (fun k => k0_pay1 x g gb (ix2 r k)) = normRow g gb fun k => x (ix2 r k) :=
  funext fun k => norm_apply x g gb r k

theorem expo_eq : k0_pay2 x g gb = expoPlain (absmaxV reduces_S8192x5120_S8192 shapeCasts_S8192_S8192x1 (k0_pay1 x g gb)) := rfl

theorem expo_apply (r : Fin 8192) : k0_pay2 x g gb (ix2 r 0) = expo (absmax (normRow g gb fun k => x (ix2 r k))) := by
  rw [expo_eq, expoPlain_apply, absmaxV_apply (.inr rfl), norm_row]

theorem scale_eq : k0_pay3 x g gb = exp2 (k0_pay2 x g gb) := rfl

theorem scale_apply (r : Fin 8192) : k0_pay3 x g gb (ix2 r 0) = scale (normRow g gb fun k => x (ix2 r k)) := by
  rw [scale_eq, exp2_apply, expo_apply, scale]

theorem code_eq (v : FVec Ideal S8192x5120 .f32) (e : FVec Ideal S8192x1 .f32) :
    k0_pay4 v e = codeV broadcasts_S8192x1_S8192x5120 v e := rfl

theorem code_apply (r : Fin 8192) (c : Fin 5120) :
    k0_pay4 (k0_pay1 x g gb) (k0_pay2 x g gb) (ix2 r c) = code (normRow g gb fun k => x (ix2 r k)) c := by
  rw [code_eq, codeV_apply (.inr rfl), expo_apply, norm_apply, code]

end Norm

/-! ## The heads -/

section Lin

variable (v : FVec Ideal S8192x5120 .f32) (e s : FVec Ideal S8192x1 .f32) (w : Vec Ideal S5120x1792 .fp8e4m3)
  (ws b : Vec Ideal S1x1792 .f32)

/-- The linear layer on codes, as printed. -/
def layer (q : FVec Ideal S8192x5120 .fp8e4m3) : FVec Ideal S8192x1792 .f32 :=
  addf (mulf (mulf (matmul (φ₂ := .fp8e4m3) dot_S8192x5120_S5120x1792_S8192x1792_1_0_0_1_n_n none q w (constant S8192x1792 .f32 0x00000000#32))
    (broadcastTo S8192x1792 s broadcasts_S8192x1_S8192x1792)) (broadcastTo S8192x1792 ws broadcasts_S1x1792_S8192x1792))
    (broadcastTo S8192x1792 b broadcasts_S1x1792_S8192x1792)

theorem layer_apply (q : FVec Ideal S8192x5120 .fp8e4m3) (r : Fin 8192) (j : Fin 1792) :
    layer s w ws b q (ix2 r j)
      = lin (fun k => q (ix2 r k)) (fun k => w (ix2 k j)) (s (ix2 r 0)) (ws (ix2 0 j)) (b (ix2 0 j)) := by
  pointwise [layer, lin]

theorem heads_eq : k0_pay5 v e s w ws b
    = shapeCast S8192x14x128 (layer s w ws b (k0_pay4 v e)) shapeCasts_S8192x1792_S8192x14x128 := rfl

theorem heads_apply (r : Fin 8192) (h : Fin 14) (c : Fin 128) : k0_pay5 v e s w ws b (ix3 r h c)
    = qkvRow w ws b (s (ix2 r 0)) (fun k => k0_pay4 v e (ix2 r k)) h c := by
  rw [heads_eq]
  refine (shapeCast_apply _ _ _ (ix2 r (headCol h c)) ?_).trans ((layer_apply ..).trans (qkvRow_at w ws b _ _ h c _ rfl).symm)
  rw [Shape.rowMajor_val_two, Shape.rowMajor_val_three]
  show r.val * 1792 + (h.val * 128 + c.val) = (r.val * 14 + h.val) * 128 + c.val
  omega

/-- The heads' largest magnitudes, as printed. -/
def absmaxHeads (p : FVec Ideal S8192x14x128 .f32) : FVec Ideal S8192x14x1 .f32 :=
  shapeCast S8192x14x1 (multiReduction .maximumf [2] S8192x14 (absf p) 0xFF800000#32 reduces_S8192x14x128_S8192x14 (.inl rfl) rfl)
    shapeCasts_S8192x14_S8192x14x1

theorem absmaxHeads_apply (p : FVec Ideal S8192x14x128 .f32) (r : Fin 8192) (h : Fin 14) :
    absmaxHeads p (ix3 r h 0) = absmax fun c => p (ix3 r h c) := by
  unfold absmaxHeads
  refine (shapeCast_apply _ _ _ (ix2 r h) ?_).trans ?_
  · rw [Shape.rowMajor_val_two, Shape.rowMajor_val_three]
    show r.val * 14 + h.val = (r.val * 14 + h.val) * 1 + 0
    omega
  · pointwise [absmax]

theorem hexpo_eq : k0_pay6 v e s w ws b = expoPlain (absmaxHeads (k0_pay5 v e s w ws b)) := rfl

theorem hexpo_apply (r : Fin 8192) (h : Fin 14) : k0_pay6 v e s w ws b (ix3 r h 0)
    = expo (absmax fun c => k0_pay5 v e s w ws b (ix3 r h c)) := by
  rw [hexpo_eq, expoPlain_apply, absmaxHeads_apply]

theorem hscale_eq : k0_pay7 v e s w ws b = exp2 (k0_pay6 v e s w ws b) := rfl

theorem hscale_apply (r : Fin 8192) (h : Fin 14) : k0_pay7 v e s w ws b (ix3 r h 0)
    = scale fun c => k0_pay5 v e s w ws b (ix3 r h c) := by
  rw [hscale_eq, exp2_apply, hexpo_apply, scale]

/-- The heads over their scales, as printed. -/
def over (p : FVec Ideal S8192x14x128 .f32) (t : FVec Ideal S8192x14x1 .f32) : FVec Ideal S8192x14x128 .f32 :=
  mulf p (broadcastTo S8192x14x128 (exp2 (subf (broadcast S8192x14x1 (Scalar.ofBits (F := Ideal) .f32 0x00000000#32)) t))
    broadcasts_S8192x14x1_S8192x14x128)

theorem over_eq : k0_pay8 v e s w ws b = over (k0_pay5 v e s w ws b) (k0_pay6 v e s w ws b) := rfl

theorem hcode_apply' (p : FVec Ideal S8192x14x128 .f32) (t : FVec Ideal S8192x14x1 .f32) (r : Fin 8192) (h : Fin 14) (c : Fin 128) :
    k0_pay9 (over p t) (ix3 r h c) = clip (p (ix3 r h c) * FloatOps.exp2 (F := Ideal) (φ := .f32) (0 - t (ix3 r h 0))) := by
  pointwise [k0_pay9, over, clip]

theorem hcode_apply (r : Fin 8192) (h : Fin 14) (c : Fin 128) : k0_pay9 (k0_pay8 v e s w ws b) (ix3 r h c)
    = code (fun c => k0_pay5 v e s w ws b (ix3 r h c)) c := by
  rw [over_eq, hcode_apply', hexpo_apply, code]

end Lin

/-! ## Heads laid side by side -/

theorem side_apply {α : Type} {m K : Nat} (hm : m = 10 ∧ K = 1280 ∨ m = 2 ∧ K = 256) (o : Nat) (hK : o * 128 + K ≤ 1792)
    (x : S8192x14x128.Idx → α) (hs : S8192x14x128.Slices ![0, o, 0] ⟨3, ![8192, m, 128]⟩)
    (hc : (⟨3, ![8192, m, 128]⟩ : Shape).ShapeCasts ⟨2, ![8192, K]⟩) (r : Fin 8192) (c : Fin K) :
    shapeCast ⟨2, ![8192, K]⟩ (extractStridedSlice ⟨3, ![8192, m, 128]⟩ ![0, o, 0] x hs) hc (ix2 r c)
      = x (ix3 r (hd o K hK c) (ln c)) := by
  have hlt : c.val / 128 < m := by rcases hm with ⟨rfl, rfl⟩ | ⟨rfl, rfl⟩ <;> omega
  refine (shapeCast_apply _ _ _ (ix3 r (⟨c.val / 128, hlt⟩ : Fin m) (ln c)) ?_).trans ?_
  · rw [Shape.rowMajor_val_two, Shape.rowMajor_val_three]
    show (r.val * m + c.val / 128) * 128 + c.val % 128 = r.val * K + c.val
    rcases hm with ⟨rfl, rfl⟩ | ⟨rfl, rfl⟩ <;> omega
  · refine extractStridedSlice_apply _ _ _ _ _ fun a => ?_
    match a with
    | ⟨0, _⟩ => show r.val = 0 + r.val; omega
    | ⟨1, _⟩ => show o + c.val / 128 = o + c.val / 128; rfl
    | ⟨2, _⟩ => show c.val % 128 = 0 + c.val % 128; omega

theorem cast_apply {α : Type} (x : S8192x2x128.Idx → α) (r : Fin 8192) (c : Fin 256) :
    shapeCast S8192x256 x shapeCasts_S8192x2x128_S8192x256 (ix2 r c) = x (ix3 r (⟨c.val / 128, by omega⟩ : Fin 2) (ln c)) := by
  refine shapeCast_apply _ _ _ _ ?_
  rw [Shape.rowMajor_val_two, Shape.rowMajor_val_three]
  show (r.val * 2 + c.val / 128) * 128 + c.val % 128 = r.val * 256 + c.val
  omega

/-- Two heads' scales, each repeated along its head. -/
theorem spread_apply {α : Type} (t : S8192x14x1.Idx → α) (o : Nat) (hK : o * 128 + 256 ≤ 1792)
    (hs : S8192x14x1.Slices ![0, o, 0] S8192x2x1) (r : Fin 8192) (c : Fin 256) :
    broadcastTo S8192x2x128 (extractStridedSlice S8192x2x1 ![0, o, 0] t hs) broadcasts_S8192x2x1_S8192x2x128
      (ix3 r (⟨c.val / 128, by omega⟩ : Fin 2) (ln c)) = t (ix3 r (hd o 256 hK c) 0) := by
  refine (broadcastTo_apply _ _ _ (ix3 r (⟨c.val / 128, by omega⟩ : Fin 2) (0 : Fin 1)) fun a => ?_).trans
    (extractStridedSlice_apply _ _ _ _ _ fun a => ?_)
  · match a with
    | ⟨0, _⟩ => rfl
    | ⟨1, _⟩ => rfl
    | ⟨2, _⟩ => rfl
  · match a with
    | ⟨0, _⟩ => show r.val = 0 + r.val; omega
    | ⟨1, _⟩ => show o + c.val / 128 = o + c.val / 128; rfl
    | ⟨2, _⟩ => rfl

theorem q_apply (u : FVec Ideal S8192x14x128 .f32) (r : Fin 8192) (c : Fin 1280) :
    k0_pay10 u (ix2 r c) = k0_pay9 u (ix3 r (hd 0 1280 (by decide) c) (ln c)) := side_apply (.inl ⟨rfl, rfl⟩) 0 _ _ _ _ r c

theorem k_apply (u : FVec Ideal S8192x14x128 .f32) (r : Fin 8192) (c : Fin 256) :
    k0_pay11 u (ix2 r c) = k0_pay9 u (ix3 r (hd 10 256 (by decide) c) (ln c)) := side_apply (.inr ⟨rfl, rfl⟩) 10 _ _ _ _ r c

theorem v_apply (u : FVec Ideal S8192x14x128 .f32) (r : Fin 8192) (c : Fin 256) :
    k0_pay12 u (ix2 r c) = k0_pay9 u (ix3 r (hd 12 256 (by decide) c) (ln c)) := side_apply (.inr ⟨rfl, rfl⟩) 12 _ _ _ _ r c

theorem turn_apply {α : Type} (x : S8192x256.Idx → α) (r : Fin 8192) (c : Fin 256) :
    transpose S256x8192 [1, 0] x transposes_S8192x256_p1_0_S256x8192 (ix2 c r) = x (ix2 r c) :=
  transpose_apply _ _ _ _ (ix2 r c) fun b => match b with | ⟨0, _⟩ => rfl | ⟨1, _⟩ => rfl

theorem slice_apply {α : Type} (x : S8192x14x128.Idx → α) (r : Fin 8192) (c : Fin 256) :
    extractStridedSlice S8192x2x128 ![0, 12, 0] x slices_S8192x14x128_o0_12_0_S8192x2x128
      (ix3 r (⟨c.val / 128, by omega⟩ : Fin 2) (ln c)) = x (ix3 r (hd 12 256 (by decide) c) (ln c)) := by
  refine extractStridedSlice_apply _ _ _ _ _ fun a => ?_
  match a with
  | ⟨0, _⟩ => show r.val = 0 + r.val; omega
  | ⟨1, _⟩ => show 12 + c.val / 128 = 12 + c.val / 128; rfl
  | ⟨2, _⟩ => show c.val % 128 = 0 + c.val % 128; omega

theorem vt_apply (t : FVec Ideal S8192x14x1 .f32) (u : FVec Ideal S8192x14x128 .f32) (r : Fin 8192) (c : Fin 256) :
    k0_pay13 t u (ix2 c r)
      = k0_pay9 u (ix3 r (hd 12 256 (by decide) c) (ln c)) * t (ix3 r (hd 12 256 (by decide) c) 0) := by
  have e : k0_pay13 t u (ix2 c r) = transpose S256x8192 [1, 0] (shapeCast S8192x256 (mulf (F := Ideal) (φ := .f32)
      (extf (F := Ideal) (φ := .fp8e4m3) .f32 (extractStridedSlice S8192x2x128 ![0, 12, 0] (k0_pay9 u) slices_S8192x14x128_o0_12_0_S8192x2x128)
        bitsLt_fp8e4m3_f32)
      (broadcastTo S8192x2x128 (extractStridedSlice S8192x2x1 ![0, 12, 0] t slices_S8192x14x1_o0_12_0_S8192x2x1)
        broadcasts_S8192x2x1_S8192x2x128)) shapeCasts_S8192x2x128_S8192x256) transposes_S8192x256_p1_0_S256x8192 (ix2 c r) := rfl
  rw [e, turn_apply, cast_apply]
  exact congrArg₂ (fun x y : EReal => x * y) (slice_apply (k0_pay9 u) r c) (spread_apply t 12 (by decide) _ r c)

theorem ks_apply (t : FVec Ideal S8192x14x1 .f32) (r : Fin 8192) (c : Fin 256) :
    k0_pay14 t (ix2 r c) = t (ix3 r (hd 10 256 (by decide) c) 0) := by
  unfold k0_pay14
  rw [shapeCast_self]
  exact (cast_apply _ r c).trans (spread_apply t 10 (by decide) _ r c)

/-- The packed scales: the row's column, the fourteen heads' columns and a zero column, transposed. -/
theorem pack_apply (s : FVec Ideal S8192x1 .f32) (t : FVec Ideal S8192x14x1 .f32) (k : Fin 16) (r : Fin 8192) :
    k0_pay15 s t (ix2 k r) = pack15 (s (ix2 r 0)) (fun h => t (ix3 r h 0)) k := by
  unfold k0_pay15
  refine (transpose_apply _ _ _ _ (ix2 r k) fun c => match c with | ⟨0, _⟩ => rfl | ⟨1, _⟩ => rfl).trans ?_
  by_cases h : k.val < 15
  · refine (concatenate_pair_apply_left (t := S8192x16) (s₁ := S8192x15) (s₂ := S8192x1) (1 : Fin 2) _ _ _ _ rfl (ix2 r (⟨k.val, h⟩ : Fin 15)) ?_).trans ?_
    · intro b; match b with | ⟨0, _⟩ => rfl | ⟨1, _⟩ => rfl
    by_cases h0 : k.val = 0
    · obtain rfl : k = 0 := Fin.ext h0
      refine (concatenate_pair_apply_left (t := S8192x15) (s₁ := S8192x1) (s₂ := S8192x14) (1 : Fin 2) _ _ _ _ rfl (ix2 r (0 : Fin 1)) ?_).trans (by rw [pack15, if_pos h0])
      intro b; match b with | ⟨0, _⟩ => rfl | ⟨1, _⟩ => rfl
    · have hk : k.val - 1 < 14 := by omega
      refine (concatenate_pair_apply_right (t := S8192x15) (s₁ := S8192x1) (s₂ := S8192x14) (1 : Fin 2) _ _ _ _ rfl rfl (ix2 r (⟨k.val - 1, hk⟩ : Fin 14)) ?_ ?_).trans ?_
      · intro b hb; match b, hb with | ⟨0, _⟩, _ => rfl | ⟨1, _⟩, hb => exact absurd rfl hb
      · show k.val - 1 + 1 = k.val; omega
      · rw [pack15, if_neg h0, dif_pos hk]
        refine shapeCast_apply _ _ _ _ ?_
        rw [Shape.rowMajor_val_two, Shape.rowMajor_val_three]
        show (r.val * 14 + (k.val - 1)) * 1 + 0 = r.val * 14 + (k.val - 1)
        omega
  · refine (concatenate_pair_apply_right (t := S8192x16) (s₁ := S8192x15) (s₂ := S8192x1) (1 : Fin 2) _ _ _ _ rfl rfl (ix2 r (0 : Fin 1)) ?_ ?_).trans ?_
    · intro b hb; match b, hb with | ⟨0, _⟩, _ => rfl | ⟨1, _⟩, hb => exact absurd rfl hb
    · show 0 + 15 = k.val; omega
    · rw [pack15, if_neg (by omega), dif_neg (by omega)]
      exact Ideal.ofBits_zero_f32

/-! ## The seven outputs -/

theorem zero2 : (![0, 0] : Fin 2 → Nat) = fun _ => 0 := funext fun a => by fin_cases a <;> rfl

section Outs

variable (x0 : Vec Ideal S8192x5120 .bf16) (x1 x2 : Vec Ideal S1x5120 .f32) (x3 : Vec Ideal S5120x1792 .fp8e4m3)
  (x4 x5 : Vec Ideal S1x1792 .f32)

theorem ld0 : View.ld x0 r0_0 = x0 := View.ld_unit_zero zero2 _ _
theorem ld1 : View.ld x1 r0_1 = x1 := View.ld_unit_zero zero2 _ _
theorem ld3 : View.ld x3 r0_2 = x3 := View.ld_unit_zero zero2 _ _
theorem ld4 : View.ld x4 r0_3 = x4 := View.ld_unit_zero zero2 _ _

theorem norms : k0_pay16 x0 x1 x2 x3 x4 x5 = k0_pay1 x0 x1 x2 := by
  unfold k0_pay16; rw [ld0, ld1, ld1]

theorem expos : k0_pay17 x0 x1 x2 x3 x4 x5 = k0_pay2 x0 x1 x2 := by
  unfold k0_pay17; rw [ld0, ld1, ld1]

theorem scales : k0_pay18 x0 x1 x2 x3 x4 x5 = k0_pay3 x0 x1 x2 := by
  unfold k0_pay18; rw [ld0, ld1, ld1]

theorem heads_row (r : Fin 8192) (h : Fin 14) :
    (fun c => k0_pay5 (k0_pay1 x0 x1 x2) (k0_pay2 x0 x1 x2) (k0_pay3 x0 x1 x2) x3 x4 x5 (ix3 r h c)) = rowsZ x0 x1 x2 x3 x4 x5 r h := by
  funext c
  rw [heads_apply, scale_apply]
  simp only [code_apply]
  rfl

theorem codes_apply (r : Fin 8192) (h : Fin 14) (c : Fin 128) :
    k0_pay9 (k0_pay20 x0 x1 x2 x3 x4 x5) (ix3 r h c) = code (rowsZ x0 x1 x2 x3 x4 x5 r h) c := by
  unfold k0_pay20
  rw [norms, expos, scales, ld3, ld4, ld4, hcode_apply, heads_row]

theorem hscales_apply (r : Fin 8192) (h : Fin 14) : k0_pay19 x0 x1 x2 x3 x4 x5 (ix3 r h 0) = scale (rowsZ x0 x1 x2 x3 x4 x5 r h) := by
  unfold k0_pay19
  rw [norms, expos, scales, ld3, ld4, ld4, hscale_apply, heads_row]

theorem out6 : out0_6 x0 x1 x2 x3 x4 x5 = normCodes x0 x1 x2 := by
  unfold out0_6
  rw [norms, expos]
  refine (View.canon_unit_zero zero2 _ _).trans ?_
  funext y
  obtain ⟨r, k, rfl⟩ : ∃ (r : Fin 8192) (k : Fin 5120), y = ix2 r k := ⟨y 0, y 1, eq_ix2 y⟩
  rw [code_apply]
  rfl

theorem out7 : out0_7 x0 x1 x2 x3 x4 x5 = qAll x0 x1 x2 x3 x4 x5 := by
  unfold out0_7
  refine (View.canon_unit_zero zero2 _ _).trans ?_
  funext y
  obtain ⟨r, k, rfl⟩ : ∃ (r : Fin 8192) (k : Fin 1280), y = ix2 r k := ⟨y 0, y 1, eq_ix2 y⟩
  rw [q_apply, codes_apply]
  rfl

theorem out8 : out0_8 x0 x1 x2 x3 x4 x5 = kAll x0 x1 x2 x3 x4 x5 := by
  unfold out0_8
  refine (View.canon_unit_zero zero2 _ _).trans ?_
  funext y
  obtain ⟨r, k, rfl⟩ : ∃ (r : Fin 8192) (k : Fin 256), y = ix2 r k := ⟨y 0, y 1, eq_ix2 y⟩
  rw [k_apply, codes_apply]
  rfl

theorem out9 : out0_9 x0 x1 x2 x3 x4 x5 = vAll x0 x1 x2 x3 x4 x5 := by
  unfold out0_9
  refine (View.canon_unit_zero zero2 _ _).trans ?_
  funext y
  obtain ⟨r, k, rfl⟩ : ∃ (r : Fin 8192) (k : Fin 256), y = ix2 r k := ⟨y 0, y 1, eq_ix2 y⟩
  rw [v_apply, codes_apply]
  rfl

theorem out10 : out0_10 x0 x1 x2 x3 x4 x5 = vtAll x0 x1 x2 x3 x4 x5 := by
  unfold out0_10
  refine (View.canon_unit_zero zero2 _ _).trans ?_
  funext y
  obtain ⟨r, k, rfl⟩ : ∃ (r : Fin 256) (k : Fin 8192), y = ix2 r k := ⟨y 0, y 1, eq_ix2 y⟩
  rw [vt_apply, codes_apply, hscales_apply]
  rfl

theorem out11 : out0_11 x0 x1 x2 x3 x4 x5 = ksAll x0 x1 x2 x3 x4 x5 := by
  unfold out0_11
  refine (View.canon_unit_zero zero2 _ _).trans ?_
  funext y
  obtain ⟨r, k, rfl⟩ : ∃ (r : Fin 8192) (k : Fin 256), y = ix2 r k := ⟨y 0, y 1, eq_ix2 y⟩
  rw [ks_apply, hscales_apply]
  rfl

theorem out12 : out0_12 x0 x1 x2 x3 x4 x5 = scAll x0 x1 x2 x3 x4 x5 := by
  unfold out0_12
  rw [scales]
  refine (View.canon_unit_zero zero2 _ _).trans ?_
  funext y
  obtain ⟨r, k, rfl⟩ : ∃ (r : Fin 16) (k : Fin 8192), y = ix2 r k := ⟨y 0, y 1, eq_ix2 y⟩
  rw [pack_apply, scale_apply]
  simp only [hscales_apply]
  rfl

end Outs

/-! ## The run: the grid is one point, and every block is its whole array -/

variable (m : (ℓ : Loc nD τ sig) → Buf (Elt Ideal) ℓ) (ρ : Dev nD → PrngReg)

theorem emb0 (t : Fin cfg0.N) (j : S8192x5120.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 8192 + 1 * (j 0).val = (j 0).val; omega
  | ⟨1, _⟩ => show win0_0.index t (1 : Fin 2) * 5120 + 1 * (j 1).val = (j 1).val; omega

theorem emb1 (t : Fin cfg0.N) (j : S1x5120.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1 + 1 * (j 0).val = (j 0).val; omega
  | ⟨1, _⟩ => show win0_1.index t (1 : Fin 2) * 5120 + 1 * (j 1).val = (j 1).val; omega

theorem emb2 (t : Fin cfg0.N) (j : S1x5120.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * (j 0).val = (j 0).val; omega
  | ⟨1, _⟩ => show win0_2.index t (1 : Fin 2) * 5120 + 1 * (j 1).val = (j 1).val; omega

theorem emb3 (t : Fin cfg0.N) (j : S5120x1792.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 5120 + 1 * (j 0).val = (j 0).val; omega
  | ⟨1, _⟩ => show win0_3.index t (1 : Fin 2) * 1792 + 1 * (j 1).val = (j 1).val; omega

theorem emb4 (t : Fin cfg0.N) (j : S1x1792.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 1792 + 1 * (j 1).val = (j 1).val; omega

theorem emb5 (t : Fin cfg0.N) (j : S1x1792.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 1792 + 1 * (j 1).val = (j 1).val; omega

theorem emb6 (t : Fin cfg0.N) (j : S8192x5120.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 8192 + 1 * (j 0).val = (j 0).val; omega
  | ⟨1, _⟩ => show win0_6.index t (1 : Fin 2) * 5120 + 1 * (j 1).val = (j 1).val; omega

theorem emb7 (t : Fin cfg0.N) (j : S8192x1280.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 8192 + 1 * (j 0).val = (j 0).val; omega
  | ⟨1, _⟩ => show win0_7.index t (1 : Fin 2) * 1280 + 1 * (j 1).val = (j 1).val; omega

theorem emb8 (t : Fin cfg0.N) (j : S8192x256.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 8192 + 1 * (j 0).val = (j 0).val; omega
  | ⟨1, _⟩ => show win0_8.index t (1 : Fin 2) * 256 + 1 * (j 1).val = (j 1).val; omega

theorem emb9 (t : Fin cfg0.N) (j : S8192x256.Idx) : ((cfg0.win 9).blk t).view.emb j = j := by
  obtain ⟨e0, e1⟩ := (by decide +kernel : ∀ t : Fin grid0.N, win0_9.index t (0 : Fin 2) = 0 ∧ win0_9.index t (1 : Fin 2) = 0) t
  funext a; apply Fin.ext
  match a with
  | ⟨0, _⟩ => show win0_9.index t (0 : Fin 2) * 8192 + 1 * (j 0).val = (j 0).val; omega
  | ⟨1, _⟩ => show win0_9.index t (1 : Fin 2) * 256 + 1 * (j 1).val = (j 1).val; omega

theorem emb10 (t : Fin cfg0.N) (j : S256x8192.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 256 + 1 * (j 0).val = (j 0).val; omega
  | ⟨1, _⟩ => show win0_10.index t (1 : Fin 2) * 8192 + 1 * (j 1).val = (j 1).val; omega

theorem emb11 (t : Fin cfg0.N) (j : S8192x256.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 8192 + 1 * (j 0).val = (j 0).val; omega
  | ⟨1, _⟩ => show win0_11.index t (1 : Fin 2) * 256 + 1 * (j 1).val = (j 1).val; omega

theorem emb12 (t : Fin cfg0.N) (j : S16x8192.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 16 + 1 * (j 0).val = (j 0).val; omega
  | ⟨1, _⟩ => show win0_12.index t (1 : Fin 2) * 8192 + 1 * (j 1).val = (j 1).val; omega

theorem iblk0 (c : Dev nD) (t : Fin cfg0.N) : iblk m c 0 t = V m c main_arg0 :=
  funext fun j => congrArg (V m c main_arg0) (emb0 t j)

theorem iblk1 (c : Dev nD) (t : Fin cfg0.N) : iblk m c 1 t = V m c main_arg1 :=
  funext fun j => congrArg (V m c main_arg1) (emb1 t j)

theorem iblk2 (c : Dev nD) (t : Fin cfg0.N) : iblk m c 2 t = V m c main_arg2 :=
  funext fun j => congrArg (V m c main_arg2) (emb2 t j)

theorem iblk3 (c : Dev nD) (t : Fin cfg0.N) : iblk m c 3 t = V m c main_arg3 :=
  funext fun j => congrArg (V m c main_arg3) (emb3 t j)

theorem iblk4 (c : Dev nD) (t : Fin cfg0.N) : iblk m c 4 t = V m c main_arg4 :=
  funext fun j => congrArg (V m c main_arg4) (emb4 t j)

theorem iblk5 (c : Dev nD) (t : Fin cfg0.N) : iblk m c 5 t = V m c main_arg5 :=
  funext fun j => congrArg (V m c main_arg5) (emb5 t j)

theorem final6 (c : Dev nD) : (dats m 0 c).arrAt 6 cfg0.N
    = normCodes (m ((c : Thread nD τ).loc main_arg0)) (m ((c : Thread nD τ).loc main_arg1)) (m ((c : Thread nD τ).loc main_arg2)) := by
  refine (dats m 0 c).arrAt_eq_of_cover 6 (normCodes (V m c main_arg0) (V m c main_arg1) (V m c main_arg2)) (fun t _ => ?_)
    fun i => ⟨(⟨0, by decide⟩ : Fin cfg0.N), flush0_6 _, ?_⟩
  · show (cfg0.win 6).cut (grid0.coords t) ((dats m 0 c).after 6 t) = _
    rw [after0_6, out6, iblk0, iblk1, iblk2]
    exact funext fun j => congrArg (normCodes (V m c main_arg0) (V m c main_arg1) (V m c main_arg2)) (emb6 t j).symm
  · have h := ((cfg0.win 6).blk (⟨0, by decide⟩ : Fin cfg0.N)).view.emb_mem_set i
    rwa [emb6] at h

theorem final7 (c : Dev nD) : (dats m 0 c).arrAt 7 cfg0.N
    = qAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 7 (qAll (V m c main_arg0) (V m c main_arg1) (V m c main_arg2) (V m c main_arg3) (V m c main_arg4) (V m c main_arg5)) (fun t _ => ?_)
    fun i => ⟨(⟨0, by decide⟩ : Fin cfg0.N), flush0_7 _, ?_⟩
  · show (cfg0.win 7).cut (grid0.coords t) ((dats m 0 c).after 7 t) = _
    rw [after0_7, out7, iblk0, iblk1, iblk2, iblk3, iblk4, iblk5]
    exact funext fun j => congrArg (qAll (V m c main_arg0) (V m c main_arg1) (V m c main_arg2) (V m c main_arg3) (V m c main_arg4) (V m c main_arg5)) (emb7 t j).symm
  · have h := ((cfg0.win 7).blk (⟨0, by decide⟩ : Fin cfg0.N)).view.emb_mem_set i
    rwa [emb7] at h

theorem final8 (c : Dev nD) : (dats m 0 c).arrAt 8 cfg0.N
    = kAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 8 (kAll (V m c main_arg0) (V m c main_arg1) (V m c main_arg2) (V m c main_arg3) (V m c main_arg4) (V m c main_arg5)) (fun t _ => ?_)
    fun i => ⟨(⟨0, by decide⟩ : Fin cfg0.N), flush0_8 _, ?_⟩
  · show (cfg0.win 8).cut (grid0.coords t) ((dats m 0 c).after 8 t) = _
    rw [after0_8, out8, iblk0, iblk1, iblk2, iblk3, iblk4, iblk5]
    exact funext fun j => congrArg (kAll (V m c main_arg0) (V m c main_arg1) (V m c main_arg2) (V m c main_arg3) (V m c main_arg4) (V m c main_arg5)) (emb8 t j).symm
  · have h := ((cfg0.win 8).blk (⟨0, by decide⟩ : Fin cfg0.N)).view.emb_mem_set i
    rwa [emb8] at h

theorem final9 (c : Dev nD) : (dats m 0 c).arrAt 9 cfg0.N
    = vAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 9 (vAll (V m c main_arg0) (V m c main_arg1) (V m c main_arg2) (V m c main_arg3) (V m c main_arg4) (V m c main_arg5)) (fun t _ => ?_)
    fun i => ⟨(⟨0, by decide⟩ : Fin cfg0.N), flush0_9 _, ?_⟩
  · show (cfg0.win 9).cut (grid0.coords t) ((dats m 0 c).after 9 t) = _
    rw [after0_9, out9, iblk0, iblk1, iblk2, iblk3, iblk4, iblk5]
    exact funext fun j => congrArg (vAll (V m c main_arg0) (V m c main_arg1) (V m c main_arg2) (V m c main_arg3) (V m c main_arg4) (V m c main_arg5)) (emb9 t j).symm
  · have h := ((cfg0.win 9).blk (⟨0, by decide⟩ : Fin cfg0.N)).view.emb_mem_set i
    rwa [emb9] at h

theorem final10 (c : Dev nD) : (dats m 0 c).arrAt 10 cfg0.N
    = vtAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 10 (vtAll (V m c main_arg0) (V m c main_arg1) (V m c main_arg2) (V m c main_arg3) (V m c main_arg4) (V m c main_arg5)) (fun t _ => ?_)
    fun i => ⟨(⟨0, by decide⟩ : Fin cfg0.N), flush0_10 _, ?_⟩
  · show (cfg0.win 10).cut (grid0.coords t) ((dats m 0 c).after 10 t) = _
    rw [after0_10, out10, iblk0, iblk1, iblk2, iblk3, iblk4, iblk5]
    exact funext fun j => congrArg (vtAll (V m c main_arg0) (V m c main_arg1) (V m c main_arg2) (V m c main_arg3) (V m c main_arg4) (V m c main_arg5)) (emb10 t j).symm
  · have h := ((cfg0.win 10).blk (⟨0, by decide⟩ : Fin cfg0.N)).view.emb_mem_set i
    rwa [emb10] at h

theorem final11 (c : Dev nD) : (dats m 0 c).arrAt 11 cfg0.N
    = ksAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 11 (ksAll (V m c main_arg0) (V m c main_arg1) (V m c main_arg2) (V m c main_arg3) (V m c main_arg4) (V m c main_arg5)) (fun t _ => ?_)
    fun i => ⟨(⟨0, by decide⟩ : Fin cfg0.N), flush0_11 _, ?_⟩
  · show (cfg0.win 11).cut (grid0.coords t) ((dats m 0 c).after 11 t) = _
    rw [after0_11, out11, iblk0, iblk1, iblk2, iblk3, iblk4, iblk5]
    exact funext fun j => congrArg (ksAll (V m c main_arg0) (V m c main_arg1) (V m c main_arg2) (V m c main_arg3) (V m c main_arg4) (V m c main_arg5)) (emb11 t j).symm
  · have h := ((cfg0.win 11).blk (⟨0, by decide⟩ : Fin cfg0.N)).view.emb_mem_set i
    rwa [emb11] at h

theorem final12 (c : Dev nD) : (dats m 0 c).arrAt 12 cfg0.N
    = scAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 12 (scAll (V m c main_arg0) (V m c main_arg1) (V m c main_arg2) (V m c main_arg3) (V m c main_arg4) (V m c main_arg5)) (fun t _ => ?_)
    fun i => ⟨(⟨0, by decide⟩ : Fin cfg0.N), flush0_12 _, ?_⟩
  · show (cfg0.win 12).cut (grid0.coords t) ((dats m 0 c).after 12 t) = _
    rw [after0_12, out12, iblk0, iblk1, iblk2, iblk3, iblk4, iblk5]
    exact funext fun j => congrArg (scAll (V m c main_arg0) (V m c main_arg1) (V m c main_arg2) (V m c main_arg3) (V m c main_arg4) (V m c main_arg5)) (emb12 t j).symm
  · have h := ((cfg0.win 12).blk (⟨0, by decide⟩ : Fin cfg0.N)).view.emb_mem_set i
    rwa [emb12] at h

/-- An argument's array is as launched. -/
theorem kept (r : PUnit × MemSt nD τ sig (Elt Ideal)) (h : Pipeline.FramePost cfgs (dats m) 0 (V m) r) (c : Dev nD) (w : Fin cfg0.W)
    (hw : (cfg0.win w).isOut = false) : r.2.mem ((c : Thread nD τ).loc (Pipeline.arrRef spec0 w)) = V m c (Pipeline.arrRef spec0 w) :=
  ((h c).1 w).trans (((dats m 0 c).arrAt_in w hw _).trans (A_eq m c w))

theorem run : θ_run defs (onTc (τ := τ) (main (F := Ideal))) ⟨m, fun _ => 0, ρ⟩ fun r => ∀ c : Dev nD,
      r.2.mem ((c : Thread nD τ).loc main_v0_0) = normCodes (m ((c : Thread nD τ).loc main_arg0)) (m ((c : Thread nD τ).loc main_arg1)) (m ((c : Thread nD τ).loc main_arg2))
      ∧ r.2.mem ((c : Thread nD τ).loc main_v0_1) = qAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = kAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = vAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = vtAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = ksAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_6) = scAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c), ((h c).1 7).trans (final7 m c), ((h c).1 8).trans (final8 m c), ((h c).1 9).trans (final9 m c), ((h c).1 10).trans (final10 m c), ((h c).1 11).trans (final11 m c), ((h c).1 12).trans (final12 m c),
    kept m r h c 0 rfl, kept m r h c 1 rfl, kept m r h c 2 rfl, kept m r h c 3 rfl, kept m r h c 4 rfl, kept m r h c 5 rfl⟩)
    (run_main m ρ)

end Cert.QkvPlainIdeal.Value

end
-- ==== Proof.Qkv.lean ====
/- The first call (`qkv`) against the plain reference: every element of its seven results. -/
module

public import proofs.«01_k».proof.Defs
public import proofs.«01_k».proof.Proof.QkvBlock
public import proofs.«01_k».proof.Proof.QkvPlain

@[expose] public section

noncomputable section

namespace Cert.QkvIdeal.Value

open Cert.QkvIdeal Cert.QkvIdeal.Gen Cert.Layer Idealize.ShloMosaic Idealize.ShloMosaic.TcCoe Idealize.SL.Sem

variable (m : (ℓ : Loc nD τ sig) → Buf (Elt Ideal) ℓ)

/-- Row `r` of grid point `t`'s block. -/
def row (t : Fin cfg0.N) (r : Fin 256) : Fin 8192 := ⟨t.val * 256 + r.val, by have : t.val < 32 := t.isLt; omega⟩

theorem emb0 (t : Fin cfg0.N) (r : Fin 256) (k : Fin 5120) : ((cfg0.win 0).blk t).view.emb (ix2 r k) = ix2 (row t r) k := by
  obtain ⟨e0, e1⟩ := (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 256 + 1 * r.val = t.val * 256 + r.val; omega
  | ⟨1, _⟩ => show win0_0.index t (1 : Fin 2) * 5120 + 1 * k.val = k.val; omega

theorem emb1 (t : Fin cfg0.N) (j : S1x5120.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1 + 1 * (j 0).val = (j 0).val; omega
  | ⟨1, _⟩ => show win0_1.index t (1 : Fin 2) * 5120 + 1 * (j 1).val = (j 1).val; omega

theorem emb2 (t : Fin cfg0.N) (j : S1x5120.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * (j 0).val = (j 0).val; omega
  | ⟨1, _⟩ => show win0_2.index t (1 : Fin 2) * 5120 + 1 * (j 1).val = (j 1).val; omega

theorem emb3 (t : Fin cfg0.N) (j : S5120x1792.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 5120 + 1 * (j 0).val = (j 0).val; omega
  | ⟨1, _⟩ => show win0_3.index t (1 : Fin 2) * 1792 + 1 * (j 1).val = (j 1).val; omega

theorem emb4 (t : Fin cfg0.N) (j : S1x1792.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 1792 + 1 * (j 1).val = (j 1).val; omega

theorem emb5 (t : Fin cfg0.N) (j : S1x1792.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 1792 + 1 * (j 1).val = (j 1).val; omega

theorem emb6 (t : Fin cfg0.N) (r : Fin 256) (k : Fin 5120) : ((cfg0.win 6).blk t).view.emb (ix2 r k) = ix2 (row t r) k := by
  obtain ⟨e0, e1⟩ := (by decide +kernel : ∀ t : Fin grid0.N, win0_6.index t (0 : Fin 2) = t.val ∧ win0_6.index t (1 : Fin 2) = 0) t
  funext a; apply Fin.ext
  match a with
  | ⟨0, _⟩ => show win0_6.index t (0 : Fin 2) * 256 + 1 * r.val = t.val * 256 + r.val; omega
  | ⟨1, _⟩ => show win0_6.index t (1 : Fin 2) * 5120 + 1 * k.val = k.val; omega

theorem emb7 (t : Fin cfg0.N) (r : Fin 256) (k : Fin 1280) : ((cfg0.win 7).blk t).view.emb (ix2 r k) = ix2 (row t r) k := by
  obtain ⟨e0, e1⟩ := (by decide +kernel : ∀ t : Fin grid0.N, win0_7.index t (0 : Fin 2) = t.val ∧ win0_7.index t (1 : Fin 2) = 0) t
  funext a; apply Fin.ext
  match a with
  | ⟨0, _⟩ => show win0_7.index t (0 : Fin 2) * 256 + 1 * r.val = t.val * 256 + r.val; omega
  | ⟨1, _⟩ => show win0_7.index t (1 : Fin 2) * 1280 + 1 * k.val = k.val; omega

theorem emb8 (t : Fin cfg0.N) (r : Fin 256) (k : Fin 256) : ((cfg0.win 8).blk t).view.emb (ix2 r k) = ix2 (row t r) k := by
  obtain ⟨e0, e1⟩ := (by decide +kernel : ∀ t : Fin grid0.N, win0_8.index t (0 : Fin 2) = t.val ∧ win0_8.index t (1 : Fin 2) = 0) t
  funext a; apply Fin.ext
  match a with
  | ⟨0, _⟩ => show win0_8.index t (0 : Fin 2) * 256 + 1 * r.val = t.val * 256 + r.val; omega
  | ⟨1, _⟩ => show win0_8.index t (1 : Fin 2) * 256 + 1 * k.val = k.val; omega

theorem emb9 (t : Fin cfg0.N) (r : Fin 256) (k : Fin 256) : ((cfg0.win 9).blk t).view.emb (ix2 r k) = ix2 (row t r) k := by
  obtain ⟨e0, e1⟩ := (by decide +kernel : ∀ t : Fin grid0.N, win0_9.index t (0 : Fin 2) = t.val ∧ win0_9.index t (1 : Fin 2) = 0) t
  funext a; apply Fin.ext
  match a with
  | ⟨0, _⟩ => show win0_9.index t (0 : Fin 2) * 256 + 1 * r.val = t.val * 256 + r.val; omega
  | ⟨1, _⟩ => show win0_9.index t (1 : Fin 2) * 256 + 1 * k.val = k.val; omega

theorem emb10 (t : Fin cfg0.N) (k : Fin 256) (r : Fin 256) : ((cfg0.win 10).blk t).view.emb (ix2 k r) = ix2 k (row t r) := by
  obtain ⟨e0, e1⟩ := (by decide +kernel : ∀ t : Fin grid0.N, win0_10.index t (0 : Fin 2) = 0 ∧ win0_10.index t (1 : Fin 2) = t.val) t
  funext a; apply Fin.ext
  match a with
  | ⟨0, _⟩ => show win0_10.index t (0 : Fin 2) * 256 + 1 * k.val = k.val; omega
  | ⟨1, _⟩ => show win0_10.index t (1 : Fin 2) * 256 + 1 * r.val = t.val * 256 + r.val; omega

theorem emb11 (t : Fin cfg0.N) (r : Fin 256) (k : Fin 256) : ((cfg0.win 11).blk t).view.emb (ix2 r k) = ix2 (row t r) k := by
  obtain ⟨e0, e1⟩ := (by decide +kernel : ∀ t : Fin grid0.N, win0_11.index t (0 : Fin 2) = t.val ∧ win0_11.index t (1 : Fin 2) = 0) t
  funext a; apply Fin.ext
  match a with
  | ⟨0, _⟩ => show win0_11.index t (0 : Fin 2) * 256 + 1 * r.val = t.val * 256 + r.val; omega
  | ⟨1, _⟩ => show win0_11.index t (1 : Fin 2) * 256 + 1 * k.val = k.val; omega

theorem emb12 (t : Fin cfg0.N) (k : Fin 16) (r : Fin 256) : ((cfg0.win 12).blk t).view.emb (ix2 k r) = ix2 k (row t r) := by
  obtain ⟨e0, e1⟩ := (by decide +kernel : ∀ t : Fin grid0.N, win0_12.index t (0 : Fin 2) = 0 ∧ win0_12.index t (1 : Fin 2) = t.val) t
  funext a; apply Fin.ext
  match a with
  | ⟨0, _⟩ => show win0_12.index t (0 : Fin 2) * 16 + 1 * k.val = k.val; omega
  | ⟨1, _⟩ => show win0_12.index t (1 : Fin 2) * 256 + 1 * r.val = t.val * 256 + r.val; omega

/-! What the input windows hold at a grid point: rows of the input, or whole arrays. -/

section Blocks

variable (c : Dev nD) (t : Fin cfg0.N)

theorem iblk1 : iblk m c 1 t = V m c main_arg1 := funext fun i => congrArg (V m c main_arg1) (emb1 t i)

theorem iblk2 : iblk m c 2 t = V m c main_arg2 := funext fun i => congrArg (V m c main_arg2) (emb2 t i)

theorem iblk3 : iblk m c 3 t = V m c main_arg3 := funext fun i => congrArg (V m c main_arg3) (emb3 t i)

theorem iblk4 : iblk m c 4 t = V m c main_arg4 := funext fun i => congrArg (V m c main_arg4) (emb4 t i)

theorem iblk5 : iblk m c 5 t = V m c main_arg5 := funext fun i => congrArg (V m c main_arg5) (emb5 t i)

theorem x_blk (r : Fin 256) (k : Fin 5120) : (iblk m c 0 t : Vec Ideal S256x5120 .bf16) (ix2 r k) = V m c main_arg0 (ix2 (row t r) k) :=
  congrArg (V m c main_arg0) (emb0 t r k)

/-- The heads of a block's row are those of the array's row. -/
theorem z_blk (r : Fin 256) :
    z (iblk m c 3 t) (iblk m c 4 t) (iblk m c 5 t) (k0_pay4 (iblk m c 0 t) (iblk m c 1 t) (iblk m c 2 t)) (aBlk (iblk m c 0 t) (iblk m c 1 t) (iblk m c 2 t)) r
      = rowsZ (n := 8192) (V m c main_arg0) (V m c main_arg1) (V m c main_arg2) (V m c main_arg3) (V m c main_arg4) (V m c main_arg5) (row t r) := by
  funext h
  unfold z
  simp only [scale_apply, code_apply, x_blk, iblk1, iblk2, iblk3, iblk4, iblk5]
  rfl

theorem s_blk (r : Fin 256) :
    k0_pay4 (iblk m c 0 t) (iblk m c 1 t) (iblk m c 2 t) (ix2 r 0) = rowsS (n := 8192) (V m c main_arg0) (V m c main_arg1) (V m c main_arg2) (row t r) := by
  rw [scale_apply]
  simp only [x_blk, iblk1, iblk2]
  rfl

end Blocks

/-! ## The seven arrays -/

theorem final6 (c : Dev nD) : (dats m 0 c).arrAt 6 cfg0.N
    = normCodes (n := 8192) (m ((c : Thread nD τ).loc main_arg0)) (m ((c : Thread nD τ).loc main_arg1)) (m ((c : Thread nD τ).loc main_arg2)) := by
  refine (dats m 0 c).arrAt_eq_of_cover 6 (normCodes (n := 8192) (V m c main_arg0) (V m c main_arg1) (V m c main_arg2)) (fun t _ => ?_) fun i => ?_
  · rw [flushed6_A, out6]
    refine funext fun (j : S256x5120.Idx) => ?_
    obtain ⟨r, k, rfl⟩ : ∃ (r : Fin 256) (k : Fin 5120), j = ix2 r k := ⟨j 0, j 1, eq_ix2 j⟩
    refine Eq.trans ?_ (congrArg (normCodes (n := 8192) (V m c main_arg0) (V m c main_arg1) (V m c main_arg2)) (emb6 t r k)).symm
    refine (code_apply _ _ _ r k).trans ?_
    simp only [x_blk, iblk1, iblk2]
    rfl
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_6 _, ?_⟩
    have e : ((cfg0.win 6).blk t).view.emb (ix2 ⟨(i 0).val % 256, Nat.mod_lt _ (by decide)⟩ (i 1)) = i :=
      (emb6 t _ _).trans (by
        funext a; apply Fin.ext
        match a with
        | ⟨0, _⟩ => show t.val * 256 + (i 0).val % 256 = (i 0).val; omega
        | ⟨1, _⟩ => rfl)
    exact e ▸ ((cfg0.win 6).blk t).view.emb_mem_set (ix2 ⟨(i 0).val % 256, Nat.mod_lt _ (by decide)⟩ (i 1))

theorem final7 (c : Dev nD) : (dats m 0 c).arrAt 7 cfg0.N
    = qAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 7 (qAll (n := 8192) (V m c main_arg0) (V m c main_arg1) (V m c main_arg2) (V m c main_arg3) (V m c main_arg4) (V m c main_arg5)) (fun t _ => ?_) fun i => ?_
  · rw [flushed7_A, out7]
    refine funext fun (j : S256x1280.Idx) => ?_
    obtain ⟨r, k, rfl⟩ : ∃ (r : Fin 256) (k : Fin 1280), j = ix2 r k := ⟨j 0, j 1, eq_ix2 j⟩
    refine Eq.trans ?_ (congrArg (qAll (n := 8192) (V m c main_arg0) (V m c main_arg1) (V m c main_arg2) (V m c main_arg3) (V m c main_arg4) (V m c main_arg5)) (emb7 t r k)).symm
    exact congrArg (fun v => code v (ln k)) (congrFun (z_blk m c t r) _)
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_7 _, ?_⟩
    have e : ((cfg0.win 7).blk t).view.emb (ix2 ⟨(i 0).val % 256, Nat.mod_lt _ (by decide)⟩ (i 1)) = i :=
      (emb7 t _ _).trans (by
        funext a; apply Fin.ext
        match a with
        | ⟨0, _⟩ => show t.val * 256 + (i 0).val % 256 = (i 0).val; omega
        | ⟨1, _⟩ => rfl)
    exact e ▸ ((cfg0.win 7).blk t).view.emb_mem_set (ix2 ⟨(i 0).val % 256, Nat.mod_lt _ (by decide)⟩ (i 1))

theorem final8 (c : Dev nD) : (dats m 0 c).arrAt 8 cfg0.N
    = kAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 8 (kAll (n := 8192) (V m c main_arg0) (V m c main_arg1) (V m c main_arg2) (V m c main_arg3) (V m c main_arg4) (V m c main_arg5)) (fun t _ => ?_) fun i => ?_
  · rw [flushed8_A, out8]
    refine funext fun (j : S256x256.Idx) => ?_
    obtain ⟨r, k, rfl⟩ : ∃ (r : Fin 256) (k : Fin 256), j = ix2 r k := ⟨j 0, j 1, eq_ix2 j⟩
    refine Eq.trans ?_ (congrArg (kAll (n := 8192) (V m c main_arg0) (V m c main_arg1) (V m c main_arg2) (V m c main_arg3) (V m c main_arg4) (V m c main_arg5)) (emb8 t r k)).symm
    exact congrArg (fun v => code v (ln k)) (congrFun (z_blk m c t r) _)
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_8 _, ?_⟩
    have e : ((cfg0.win 8).blk t).view.emb (ix2 ⟨(i 0).val % 256, Nat.mod_lt _ (by decide)⟩ (i 1)) = i :=
      (emb8 t _ _).trans (by
        funext a; apply Fin.ext
        match a with
        | ⟨0, _⟩ => show t.val * 256 + (i 0).val % 256 = (i 0).val; omega
        | ⟨1, _⟩ => rfl)
    exact e ▸ ((cfg0.win 8).blk t).view.emb_mem_set (ix2 ⟨(i 0).val % 256, Nat.mod_lt _ (by decide)⟩ (i 1))

theorem final9 (c : Dev nD) : (dats m 0 c).arrAt 9 cfg0.N
    = vAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 9 (vAll (n := 8192) (V m c main_arg0) (V m c main_arg1) (V m c main_arg2) (V m c main_arg3) (V m c main_arg4) (V m c main_arg5)) (fun t _ => ?_) fun i => ?_
  · rw [flushed9_A, out9]
    refine funext fun (j : S256x256.Idx) => ?_
    obtain ⟨r, k, rfl⟩ : ∃ (r : Fin 256) (k : Fin 256), j = ix2 r k := ⟨j 0, j 1, eq_ix2 j⟩
    refine Eq.trans ?_ (congrArg (vAll (n := 8192) (V m c main_arg0) (V m c main_arg1) (V m c main_arg2) (V m c main_arg3) (V m c main_arg4) (V m c main_arg5)) (emb9 t r k)).symm
    exact congrArg (fun v => code v (ln k)) (congrFun (z_blk m c t r) _)
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_9 _, ?_⟩
    have e : ((cfg0.win 9).blk t).view.emb (ix2 ⟨(i 0).val % 256, Nat.mod_lt _ (by decide)⟩ (i 1)) = i :=
      (emb9 t _ _).trans (by
        funext a; apply Fin.ext
        match a with
        | ⟨0, _⟩ => show t.val * 256 + (i 0).val % 256 = (i 0).val; omega
        | ⟨1, _⟩ => rfl)
    exact e ▸ ((cfg0.win 9).blk t).view.emb_mem_set (ix2 ⟨(i 0).val % 256, Nat.mod_lt _ (by decide)⟩ (i 1))

theorem final10 (c : Dev nD) : (dats m 0 c).arrAt 10 cfg0.N
    = vtAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 10 (vtAll (n := 8192) (V m c main_arg0) (V m c main_arg1) (V m c main_arg2) (V m c main_arg3) (V m c main_arg4) (V m c main_arg5)) (fun t _ => ?_) fun i => ?_
  · rw [flushed10_A, out10]
    refine funext fun (j : S256x256.Idx) => ?_
    obtain ⟨k, r, rfl⟩ : ∃ (k : Fin 256) (r : Fin 256), j = ix2 k r := ⟨j 0, j 1, eq_ix2 j⟩
    refine Eq.trans ?_ (congrArg (vtAll (n := 8192) (V m c main_arg0) (V m c main_arg1) (V m c main_arg2) (V m c main_arg3) (V m c main_arg4) (V m c main_arg5)) (emb10 t k r)).symm
    exact congrArg (fun v => code v (ln k) * scale v) (congrFun (z_blk m c t r) _)
  · have hi : (i 1).val < 8192 := (i 1).isLt
    obtain ⟨t, ht⟩ : ∃ t : Fin cfg0.N, t.val = (i 1).val / 256 := ⟨⟨(i 1).val / 256, by show _ < 32; omega⟩, rfl⟩
    refine ⟨t, flush0_10 _, ?_⟩
    have e : ((cfg0.win 10).blk t).view.emb (ix2 (i 0) ⟨(i 1).val % 256, Nat.mod_lt _ (by decide)⟩) = i :=
      (emb10 t _ _).trans (by
        funext a; apply Fin.ext
        match a with
        | ⟨0, _⟩ => rfl
        | ⟨1, _⟩ => show t.val * 256 + (i 1).val % 256 = (i 1).val; omega)
    exact e ▸ ((cfg0.win 10).blk t).view.emb_mem_set (ix2 (i 0) ⟨(i 1).val % 256, Nat.mod_lt _ (by decide)⟩)

theorem final11 (c : Dev nD) : (dats m 0 c).arrAt 11 cfg0.N
    = ksAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 11 (ksAll (n := 8192) (V m c main_arg0) (V m c main_arg1) (V m c main_arg2) (V m c main_arg3) (V m c main_arg4) (V m c main_arg5)) (fun t _ => ?_) fun i => ?_
  · rw [flushed11_A, out11]
    refine funext fun (j : S256x256.Idx) => ?_
    obtain ⟨r, k, rfl⟩ : ∃ (r : Fin 256) (k : Fin 256), j = ix2 r k := ⟨j 0, j 1, eq_ix2 j⟩
    refine Eq.trans ?_ (congrArg (ksAll (n := 8192) (V m c main_arg0) (V m c main_arg1) (V m c main_arg2) (V m c main_arg3) (V m c main_arg4) (V m c main_arg5)) (emb11 t r k)).symm
    exact congrArg (fun v => scale v) (congrFun (z_blk m c t r) _)
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_11 _, ?_⟩
    have e : ((cfg0.win 11).blk t).view.emb (ix2 ⟨(i 0).val % 256, Nat.mod_lt _ (by decide)⟩ (i 1)) = i :=
      (emb11 t _ _).trans (by
        funext a; apply Fin.ext
        match a with
        | ⟨0, _⟩ => show t.val * 256 + (i 0).val % 256 = (i 0).val; omega
        | ⟨1, _⟩ => rfl)
    exact e ▸ ((cfg0.win 11).blk t).view.emb_mem_set (ix2 ⟨(i 0).val % 256, Nat.mod_lt _ (by decide)⟩ (i 1))

theorem final12 (c : Dev nD) : (dats m 0 c).arrAt 12 cfg0.N
    = scAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 12 (scAll (n := 8192) (V m c main_arg0) (V m c main_arg1) (V m c main_arg2) (V m c main_arg3) (V m c main_arg4) (V m c main_arg5)) (fun t _ => ?_) fun i => ?_
  · rw [flushed12_A, out12]
    refine funext fun (j : S16x256.Idx) => ?_
    obtain ⟨k, r, rfl⟩ : ∃ (k : Fin 16) (r : Fin 256), j = ix2 k r := ⟨j 0, j 1, eq_ix2 j⟩
    refine Eq.trans ?_ (congrArg (scAll (n := 8192) (V m c main_arg0) (V m c main_arg1) (V m c main_arg2) (V m c main_arg3) (V m c main_arg4) (V m c main_arg5)) (emb12 t k r)).symm
    exact congrArg₂ (fun s t => pack15 s (fun h => scale (t h)) k) (s_blk m c t r) (z_blk m c t r)
  · have hi : (i 1).val < 8192 := (i 1).isLt
    obtain ⟨t, ht⟩ : ∃ t : Fin cfg0.N, t.val = (i 1).val / 256 := ⟨⟨(i 1).val / 256, by show _ < 32; omega⟩, rfl⟩
    refine ⟨t, flush0_12 _, ?_⟩
    have e : ((cfg0.win 12).blk t).view.emb (ix2 (i 0) ⟨(i 1).val % 256, Nat.mod_lt _ (by decide)⟩) = i :=
      (emb12 t _ _).trans (by
        funext a; apply Fin.ext
        match a with
        | ⟨0, _⟩ => rfl
        | ⟨1, _⟩ => show t.val * 256 + (i 1).val % 256 = (i 1).val; omega)
    exact e ▸ ((cfg0.win 12).blk t).view.emb_mem_set (ix2 (i 0) ⟨(i 1).val % 256, Nat.mod_lt _ (by decide)⟩)

end Cert.QkvIdeal.Value

namespace Cert.Proof

open Idealize.ShloMosaic Idealize.SL.Sem

/-- The call and its reference end with equal results. -/
theorem algebraic_qkv : Cert.algebraic_QkvIdeal_QkvPlainIdeal (hQkvIdeal := Cert.QkvIdeal.Gen.facts)
    (hQkvPlainIdeal := Cert.QkvPlainIdeal.Gen.facts) := by
  intro m g m' g' _ ha
  refine ⟨_, _, _, _, _, _, _, (θ_run _ _ _).mono (fun r h c => ⟨(h c).1.trans (Cert.QkvIdeal.Value.final6 m c),
      (h c).2.1.trans (Cert.QkvIdeal.Value.final7 m c),
      (h c).2.2.1.trans (Cert.QkvIdeal.Value.final8 m c),
      (h c).2.2.2.1.trans (Cert.QkvIdeal.Value.final9 m c),
      (h c).2.2.2.2.1.trans (Cert.QkvIdeal.Value.final10 m c),
      (h c).2.2.2.2.2.1.trans (Cert.QkvIdeal.Value.final11 m c),
      (h c).2.2.2.2.2.2.1.trans (Cert.QkvIdeal.Value.final12 m c),
      (h c).2.2.2.2.2.2.2⟩)
    (Cert.QkvIdeal.Value.run_blocks m g), (θ_run _ _ _).mono (fun r h c => ?_) (Cert.QkvPlainIdeal.Value.run m' g')⟩
  obtain ⟨a0, a1, a2, a3, a4, a5⟩ := ha c
  have hc := h c
  simp only [a0, a1, a2, a3, a4, a5] at hc ⊢
  exact hc

end Cert.Proof

end
-- ==== Proof.OneBlock.lean ====
/- What the third call (`mlp1`) leaves in its output blocks, read element by element. -/
module

public import proofs.«01_k».proof.Proof.Layer
public import proofs.«01_k».proof.Proof.Gen.MlpOneIdeal.Value

@[expose] public section

noncomputable section

namespace Cert.MlpOneIdeal.Value

open Cert.MlpOneIdeal Cert.MlpOneIdeal.Gen Cert.Layer Idealize.ShloMosaic Idealize.ShloMosaic.TcCoe Idealize.SL.Sem

/-! ## The payloads -/

theorem norm_apply (v : Vec Ideal S256x5120 .f32) (g b : Vec Ideal S1x5120 .f32) (r : Fin 256) (c : Fin 5120) :
    k0_pay16 v g b (ix2 r c) = normRow g b (fun k => v (ix2 r k)) c := by
  pointwise [k0_pay16, normRow, lnorm, mean]

theorem expo_eq (v : Vec Ideal S256x5120 .f32) (g b : Vec Ideal S1x5120 .f32) :
    k0_pay17 v g b = expoKernel (absmaxV reduces_S256x5120_S256 shapeCasts_S256_S256x1 (k0_pay16 v g b)) := rfl

theorem expo_apply (v : Vec Ideal S256x5120 .f32) (g b : Vec Ideal S1x5120 .f32) (r : Fin 256) :
    k0_pay17 v g b (ix2 r 0) = expo (absmax (normRow g b fun k => v (ix2 r k))) := by
  rw [expo_eq, expoKernel_apply, absmaxV_apply (.inl rfl)]
  simp only [norm_apply]

theorem code_eq (v : Vec Ideal S256x5120 .f32) (g b : Vec Ideal S1x5120 .f32) :
    k0_pay20 (k0_pay19 v g b) = codeV broadcasts_S256x1_S256x5120 (k0_pay16 v g b) (k0_pay17 v g b) := rfl

theorem code_apply (v : Vec Ideal S256x5120 .f32) (g b : Vec Ideal S1x5120 .f32) (r : Fin 256) (c : Fin 5120) :
    k0_pay20 (k0_pay19 v g b) (ix2 r c) = code (normRow g b fun k => v (ix2 r k)) c := by
  rw [code_eq, codeV_apply (.inl rfl), norm_apply, expo_apply, code]

theorem scale_eq (v : Vec Ideal S256x5120 .f32) (g b : Vec Ideal S1x5120 .f32) :
    k0_pay18 v g b = exp2 (k0_pay17 v g b) := rfl

theorem scale_apply (v : Vec Ideal S256x5120 .f32) (g b : Vec Ideal S1x5120 .f32) (r : Fin 256) :
    k0_pay18 v g b (ix2 r 0) = scale (normRow g b fun k => v (ix2 r k)) := by
  rw [scale_eq, exp2_apply, expo_apply, scale]

theorem resid_eq (v : Vec Ideal S256x5120 .f32) : k0_pay15 v = v := by
  funext y; rw [eq_ix2 y]; pointwise [k0_pay15]

/-- The exponents of the gelu's rows, as printed. -/
theorem gexpo_eq (v : Vec Ideal S256x3456 .f32) :
    k0_pay1 (k0_pay32 v) (k0_pay33 v) (Scalar.ofBits (F := Ideal) .f32 0x00000000#32)
      = expoKernel (absmaxV reduces_S256x3456_S256 shapeCasts_S256_S256x1 v) := rfl

theorem gexpo_apply (v : Vec Ideal S256x3456 .f32) (r : Fin 256) :
    k0_pay1 (k0_pay32 v) (k0_pay33 v) (Scalar.ofBits (F := Ideal) .f32 0x00000000#32) (ix2 r 0)
      = expo (absmax fun k => v (ix2 r k)) := by
  rw [gexpo_eq, expoKernel_apply, absmaxV_apply (.inl rfl)]

theorem gcode_eq (v : Vec Ideal S256x3456 .f32) (q : IVec S256x1 1) (e : FVec Ideal S256x1 .f32) (z : Ideal .f32) :
    k0_pay2 v q e z = codeV broadcasts_S256x1_S256x3456 v (k0_pay1 q e z) := rfl

theorem gcode_apply (v : Vec Ideal S256x3456 .f32) (r : Fin 256) (c : Fin 3456) :
    k0_pay2 v (k0_pay32 v) (k0_pay33 v) (Scalar.ofBits (F := Ideal) .f32 0x00000000#32) (ix2 r c)
      = code (fun k => v (ix2 r k)) c := by
  rw [gcode_eq, codeV_apply (.inl rfl), gexpo_apply, code]

theorem pack_apply (s : FVec Ideal S256x1 .f32) (q : IVec S256x1 1) (e : FVec Ideal S256x1 .f32) (z : Ideal .f32)
    (k : Fin 16) (r : Fin 256) :
    k0_pay3 s q e z (ix2 k r)
      = pack2 (s (ix2 r 0)) (FloatOps.exp2 (F := Ideal) (φ := .f32) (k0_pay1 q e z (ix2 r 0))) k := by
  fin_cases k
  case «1» => pointwise [k0_pay3, pack2]
  all_goals (pointwise [k0_pay3, pack2]; rfl)

theorem zero2 : (![0, 0] : Fin 2 → Nat) = fun _ => 0 := funext fun a => by fin_cases a <;> rfl

/-! The slices of the two linear layers are one function each, cut differently by the printer. -/

theorem pay5_eq (s : Vec Ideal S16x256 .f32) : k0_pay5 (F := Ideal) s = k0_pay7 (k0_pay4 s) := rfl
theorem pay6_eq (s : Vec Ideal S16x256 .f32) : k0_pay6 (F := Ideal) s = k0_pay7 (k0_pay4 s) := rfl
theorem pay8_eq : k0_pay8 (F := Ideal) = k0_pay7 := rfl
theorem pay9_eq : k0_pay9 (F := Ideal) = k0_pay7 := rfl
theorem pay10_eq : k0_pay10 (F := Ideal) = k0_pay7 := rfl
theorem pay11_eq : k0_pay11 (F := Ideal) = k0_pay7 := rfl
theorem pay12_eq : k0_pay12 (F := Ideal) = k0_pay7 := rfl
theorem pay13_eq : k0_pay13 (F := Ideal) = k0_pay7 := rfl
theorem pay14_eq : k0_pay14 (F := Ideal) = k0_pay7 := rfl
theorem pay23_eq (s : FVec Ideal S256x1 .f32) (a : Vec Ideal S256x5120 .fp8e4m3) (w : Vec Ideal S5120x512 .fp8e4m3)
    (ws b : Vec Ideal S1x512 .f32) : k0_pay23 (k0_pay22 s a w) ws b = k0_pay21 s a w ws b := rfl
theorem pay25_eq (s : FVec Ideal S256x1 .f32) (a : Vec Ideal S256x5120 .fp8e4m3) (w : Vec Ideal S5120x512 .fp8e4m3)
    (ws b : Vec Ideal S1x512 .f32) : k0_pay25 (k0_pay24 s a w ws b) = k0_pay21 s a w ws b := rfl
theorem pay26_eq : k0_pay26 (F := Ideal) = k0_pay21 := rfl
theorem pay28_eq (s : FVec Ideal S256x1 .f32) (a : Vec Ideal S256x5120 .fp8e4m3) (w : Vec Ideal S5120x512 .fp8e4m3)
    (ws b : Vec Ideal S1x512 .f32) : k0_pay28 (k0_pay27 s a w ws) b = k0_pay21 s a w ws b := rfl
theorem pay29_eq : k0_pay29 (F := Ideal) = k0_pay21 := rfl

theorem ld_row (x : Vec Ideal S1x5120 .f32) :
    View.ld x (Rect.unit ![0, 0] S1x5120.size inb_S1x5120_S1x5120_0_0) = x := View.ld_unit_zero zero2 _ _

/-! ## The stores, and what reading them back gives -/

section Blocks

variable (x0 : Vec Ideal S256x5120 .bf16) (x1 : Vec Ideal S256x1280 .fp8e4m3) (x2 : Vec Ideal S16x256 .f32)
  (x3 : Vec Ideal S1280x5120 .fp8e4m3) (x4 x5 x6 x7 : Vec Ideal S1x5120 .f32) (x8 : Vec Ideal S5120x3456 .fp8e4m3)
  (x9 x10 : Vec Ideal S1x3456 .f32)

/-- One store of the residual's block: columns `o` to `o + 511`. -/
abbrev hPiece (o : Nat) (h : ∀ a, (![0, o] : Fin 2 → Nat) a + S256x512.size a ≤ S256x5120.size a)
    (h3 : ∀ a, (![0, o] : Fin 2 → Nat) a + S1280x512.size a ≤ S1280x5120.size a)
    (h4 : ∀ a, (![0, o] : Fin 2 → Nat) a + S1x512.size a ≤ S1x5120.size a) : View.Piece (Elt Ideal) S256x5120 .f32 :=
  ⟨Rect.unit ![0, o] S256x512.size h,
    k0_pay7 (k0_pay4 (View.ld x2 (Rect.unit ![0, 0] S16x256.size inb_S16x256_S16x256_0_0)))
      (View.ld x1 (Rect.unit ![0, 0] S256x1280.size inb_S256x1280_S256x1280_0_0)) (View.ld x3 (Rect.unit ![0, o] S1280x512.size h3))
      (View.ld x0 (Rect.unit ![0, o] S256x512.size h)) (View.ld x4 (Rect.unit ![0, o] S1x512.size h4))
      (View.ld x5 (Rect.unit ![0, o] S1x512.size h4))⟩

/-- The residual's ten stores, the last first. -/
def hPieces : List (View.Piece (Elt Ideal) S256x5120 .f32) :=
  [hPiece x0 x1 x2 x3 x4 x5 4608 inb_S256x5120_S256x512_0_4608 inb_S1280x5120_S1280x512_0_4608 inb_S1x5120_S1x512_0_4608,
   hPiece x0 x1 x2 x3 x4 x5 4096 inb_S256x5120_S256x512_0_4096 inb_S1280x5120_S1280x512_0_4096 inb_S1x5120_S1x512_0_4096,
   hPiece x0 x1 x2 x3 x4 x5 3584 inb_S256x5120_S256x512_0_3584 inb_S1280x5120_S1280x512_0_3584 inb_S1x5120_S1x512_0_3584,
   hPiece x0 x1 x2 x3 x4 x5 3072 inb_S256x5120_S256x512_0_3072 inb_S1280x5120_S1280x512_0_3072 inb_S1x5120_S1x512_0_3072,
   hPiece x0 x1 x2 x3 x4 x5 2560 inb_S256x5120_S256x512_0_2560 inb_S1280x5120_S1280x512_0_2560 inb_S1x5120_S1x512_0_2560,
   hPiece x0 x1 x2 x3 x4 x5 2048 inb_S256x5120_S256x512_0_2048 inb_S1280x5120_S1280x512_0_2048 inb_S1x5120_S1x512_0_2048,
   hPiece x0 x1 x2 x3 x4 x5 1536 inb_S256x5120_S256x512_0_1536 inb_S1280x5120_S1280x512_0_1536 inb_S1x5120_S1x512_0_1536,
   hPiece x0 x1 x2 x3 x4 x5 1024 inb_S256x5120_S256x512_0_1024 inb_S1280x5120_S1280x512_0_1024 inb_S1x5120_S1x512_0_1024,
   hPiece x0 x1 x2 x3 x4 x5 512 inb_S256x5120_S256x512_0_512 inb_S1280x5120_S1280x512_0_512 inb_S1x5120_S1x512_0_512,
   hPiece x0 x1 x2 x3 x4 x5 0 inb_S256x5120_S256x512_0_0 inb_S1280x5120_S1280x512_0_0 inb_S1x5120_S1x512_0_0]

/-- The residual's block. -/
def hBlk : Vec Ideal S256x5120 .f32 := fun y => hRow x0 x1 x2 x3 x4 x5 (y 0) (y 1)

theorem hCover (y : S256x5120.Idx) : ∃ p ∈ hPieces x0 x1 x2 x3 x4 x5, y ∈ p.1.set :=
  View.cover_of_tiledL (hPieces x0 x1 x2 x3 x4 x5) S256x512.size (by sl_kernel_rfl) y

theorem hCanon : View.canon (hPieces x0 x1 x2 x3 x4 x5) = hBlk x0 x1 x2 x3 x4 x5 := by
  funext y
  refine View.canon_apply_of_pieces (Val := Elt Ideal) (hBlk x0 x1 x2 x3 x4 x5) _ ?_ y (hCover x0 x1 x2 x3 x4 x5 y)
  intro p hp
  simp only [hPieces, List.mem_cons, List.not_mem_nil, or_false] at hp
  rcases hp with rfl | rfl | rfl | rfl | rfl | rfl | rfl | rfl | rfl | rfl <;> intro x <;> rw [eq_ix2 x]
  all_goals pointwise [emb_idx, hBlk, hRow, lin, k0_pay4, k0_pay7]

theorem hRead {sig : RefSig} {κ : Kind} {sp : Space} (v : View sig κ sp S256x5120 .f32) :
    v.readCov (hPieces x0 x1 x2 x3 x4 x5) (Rect.unit ![0, 0] S256x5120.size inb_S256x5120_S256x5120_0_0).toLoadRect
      = hBlk x0 x1 x2 x3 x4 x5 := by
  rw [View.readCov_eq_canon_ld _ _ _ (hCover x0 x1 x2 x3 x4 x5), hCanon]
  exact View.ld_unit_zero zero2 _ _

/-- One store of the gelu's block: columns `o` to `o + 511`. -/
abbrev gPiece (s : FVec Ideal S256x1 .f32) (a : Vec Ideal S256x5120 .fp8e4m3) (o : Nat)
    (h : ∀ a, (![0, o] : Fin 2 → Nat) a + S256x512.size a ≤ S256x3456.size a)
    (h8 : ∀ a, (![0, o] : Fin 2 → Nat) a + S5120x512.size a ≤ S5120x3456.size a)
    (h9 : ∀ a, (![0, o] : Fin 2 → Nat) a + S1x512.size a ≤ S1x3456.size a) : View.Piece (Elt Ideal) S256x3456 .f32 :=
  ⟨Rect.unit ![0, o] S256x512.size h,
    k0_pay21 s a (View.ld x8 (Rect.unit ![0, o] S5120x512.size h8)) (View.ld x9 (Rect.unit ![0, o] S1x512.size h9))
      (View.ld x10 (Rect.unit ![0, o] S1x512.size h9))⟩

/-- The gelu's seven stores, the last first. -/
def gPieces (s : FVec Ideal S256x1 .f32) (a : Vec Ideal S256x5120 .fp8e4m3) : List (View.Piece (Elt Ideal) S256x3456 .f32) :=
  [⟨Rect.unit ![0, 3072] S256x384.size inb_S256x3456_S256x384_0_3072,
    k0_pay30 s a (View.ld x8 (Rect.unit ![0, 3072] S5120x384.size inb_S5120x3456_S5120x384_0_3072))
      (View.ld x9 (Rect.unit ![0, 3072] S1x384.size inb_S1x3456_S1x384_0_3072))
      (View.ld x10 (Rect.unit ![0, 3072] S1x384.size inb_S1x3456_S1x384_0_3072))⟩,
   gPiece x8 x9 x10 s a 2560 inb_S256x3456_S256x512_0_2560 inb_S5120x3456_S5120x512_0_2560 inb_S1x3456_S1x512_0_2560,
   gPiece x8 x9 x10 s a 2048 inb_S256x3456_S256x512_0_2048 inb_S5120x3456_S5120x512_0_2048 inb_S1x3456_S1x512_0_2048,
   gPiece x8 x9 x10 s a 1536 inb_S256x3456_S256x512_0_1536 inb_S5120x3456_S5120x512_0_1536 inb_S1x3456_S1x512_0_1536,
   gPiece x8 x9 x10 s a 1024 inb_S256x3456_S256x512_0_1024 inb_S5120x3456_S5120x512_0_1024 inb_S1x3456_S1x512_0_1024,
   gPiece x8 x9 x10 s a 512 inb_S256x3456_S256x512_0_512 inb_S5120x3456_S5120x512_0_512 inb_S1x3456_S1x512_0_512,
   gPiece x8 x9 x10 s a 0 inb_S256x3456_S256x512_0_0 inb_S5120x3456_S5120x512_0_0 inb_S1x3456_S1x512_0_0]

/-- The gelu's block, from the codes and their scales. -/
def gBlk (s : FVec Ideal S256x1 .f32) (a : Vec Ideal S256x5120 .fp8e4m3) : Vec Ideal S256x3456 .f32 := fun y =>
  gRow x8 x9 x10 (s (ix2 (y 0) 0)) (fun k => a (ix2 (y 0) k)) (y 1)

theorem gCover (s : FVec Ideal S256x1 .f32) (a : Vec Ideal S256x5120 .fp8e4m3) (y : S256x3456.Idx) :
    ∃ p ∈ gPieces x8 x9 x10 s a, y ∈ p.1.set :=
  View.cover_of_tiledBy (gPieces x8 x9 x10 s a) ![256, 128] (by sl_kernel_rfl) y

theorem gRead {sig : RefSig} {κ : Kind} {sp : Space} (v : View sig κ sp S256x3456 .f32) (s : FVec Ideal S256x1 .f32)
    (a : Vec Ideal S256x5120 .fp8e4m3) :
    v.readCov (gPieces x8 x9 x10 s a) (Rect.unit ![0, 0] S256x3456.size inb_S256x3456_S256x3456_0_0).toLoadRect
      = gBlk x8 x9 x10 s a := by
  rw [View.readCov_eq_canon_ld _ _ _ (gCover x8 x9 x10 s a)]
  refine (View.ld_unit_zero zero2 _ _).trans ?_
  funext y
  refine View.canon_apply_of_pieces (Val := Elt Ideal) (gBlk x8 x9 x10 s a) _ ?_ y (gCover x8 x9 x10 s a y)
  intro p hp
  simp only [gPieces, List.mem_cons, List.not_mem_nil, or_false] at hp
  rcases hp with rfl | rfl | rfl | rfl | rfl | rfl | rfl <;> intro x <;> rw [eq_ix2 x]
  all_goals pointwise [emb_idx, gBlk, gRow, lin, gelu, k0_pay21, k0_pay30]

end Blocks

/-! ## The four outputs -/

section Outs

set_option maxRecDepth 20000

variable (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S16x256 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x5120 .f32) (harg8 : arg8.IsWhole) (arg9 : Memref sig .tc .vmem S5120x3456 .fp8e4m3) (harg9 : arg9.IsWhole) (arg10 : Memref sig .tc .vmem S1x3456 .f32) (harg10 : arg10.IsWhole) (arg11 : Memref sig .tc .vmem S1x3456 .f32) (harg11 : arg11.IsWhole) (arg12 : Memref sig .tc .vmem S256x5120 .f32) (harg12 : arg12.IsWhole) (arg13 : Memref sig .tc .vmem S256x5120 .fp8e4m3) (harg13 : arg13.IsWhole) (arg14 : Memref sig .tc .vmem S256x3456 .fp8e4m3) (harg14 : arg14.IsWhole) (arg15 : Memref sig .tc .vmem S16x256 .f32) (harg15 : arg15.IsWhole) (arg16 : Memref sig .tc .vmem S256x3456 .f32) (harg16 : arg16.IsWhole)
    (x0 : Vec Ideal S256x5120 .bf16) (x1 : Vec Ideal S256x1280 .fp8e4m3) (x2 : Vec Ideal S16x256 .f32) (x3 : Vec Ideal S1280x5120 .fp8e4m3) (x4 : Vec Ideal S1x5120 .f32) (x5 : Vec Ideal S1x5120 .f32) (x6 : Vec Ideal S1x5120 .f32) (x7 : Vec Ideal S1x5120 .f32) (x8 : Vec Ideal S5120x3456 .fp8e4m3) (x9 : Vec Ideal S1x3456 .f32) (x10 : Vec Ideal S1x3456 .f32)

/-- The codes' block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = hBlk x0 x1 x2 x3 x4 x5 := by
  unfold out0_A_11
  rw [View.read_writes_eq_canon _ _ _ (fun y => cover0_A_11 c i _ _ _ _ _ _ _ _ _ _ _ _ _ _ _ _ _ _ _ _ _ _ _ _ _ _ _ _ _ _ _ _ x0 x1 x2 x3 x4 x5 x6 x7 x8 x9 x10 y)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, resid_eq, pay5_eq, pay6_eq, pay8_eq, pay9_eq, pay10_eq, pay11_eq, pay12_eq, pay13_eq,
    pay14_eq, pay23_eq, pay25_eq, pay26_eq, pay28_eq, pay29_eq]
  exact hCanon x0 x1 x2 x3 x4 x5

theorem hRead1 (v : View sig .tc .vmem S256x5120 .f32) :
    k0_pay18 (v.readCov (hPieces x0 x1 x2 x3 x4 x5) (Rect.unit ![0, 0] S256x5120.size inb_S256x5120_S256x5120_0_0).toLoadRect)
      (View.ld x6 (Rect.unit ![0, 0] S1x5120.size inb_S1x5120_S1x5120_0_0))
      (View.ld x7 (Rect.unit ![0, 0] S1x5120.size inb_S1x5120_S1x5120_0_0)) = k0_pay18 (hBlk x0 x1 x2 x3 x4 x5) x6 x7 := by
  rw [hRead, ld_row, ld_row]

theorem hRead2 (v : View sig .tc .vmem S256x5120 .f32) :
    k0_pay20 (k0_pay19 (v.readCov (hPieces x0 x1 x2 x3 x4 x5)
        (Rect.unit ![0, 0] S256x5120.size inb_S256x5120_S256x5120_0_0).toLoadRect)
      (View.ld x6 (Rect.unit ![0, 0] S1x5120.size inb_S1x5120_S1x5120_0_0))
      (View.ld x7 (Rect.unit ![0, 0] S1x5120.size inb_S1x5120_S1x5120_0_0)))
      = k0_pay20 (k0_pay19 (hBlk x0 x1 x2 x3 x4 x5) x6 x7) := by
  rw [hRead, ld_row, ld_row]

theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = k0_pay20 (k0_pay19 (hBlk x0 x1 x2 x3 x4 x5) x6 x7) := by
  unfold out0_A_12
  rw [View.read_writes_eq_canon _ _ _ (fun y => cover0_A_12 c i _ _ _ _ _ _ _ _ _ _ _ _ _ _ _ _ _ _ _ _ _ _ _ _ _ _ _ _ _ _ _ _ x0 x1 x2 x3 x4 x5 x6 x7 x8 x9 x10 y)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, resid_eq, pay5_eq, pay6_eq, pay8_eq, pay9_eq, pay10_eq, pay11_eq, pay12_eq, pay13_eq,
    pay14_eq, pay23_eq, pay25_eq, pay26_eq, pay28_eq, pay29_eq]
  refine (View.canon_unit_zero zero2 _ _).trans ?_
  exact hRead2 x0 x1 x2 x3 x4 x5 x6 x7 arg12.view

/-- The block the gelu is computed into. -/
abbrev gOut : Vec Ideal S256x3456 .f32 :=
  gBlk x8 x9 x10 (k0_pay18 (hBlk x0 x1 x2 x3 x4 x5) x6 x7) (k0_pay20 (k0_pay19 (hBlk x0 x1 x2 x3 x4 x5) x6 x7))

theorem gReadOut (v : View sig .tc .vmem S256x3456 .f32) (s : FVec Ideal S256x1 .f32) (a : Vec Ideal S256x5120 .fp8e4m3)
    (hs : s = k0_pay18 (hBlk x0 x1 x2 x3 x4 x5) x6 x7) (ha : a = k0_pay20 (k0_pay19 (hBlk x0 x1 x2 x3 x4 x5) x6 x7)) :
    v.readCov (gPieces x8 x9 x10 s a) (Rect.unit ![0, 0] S256x3456.size inb_S256x3456_S256x3456_0_0).toLoadRect
      = gOut x0 x1 x2 x3 x4 x5 x6 x7 x8 x9 x10 := by
  subst hs ha
  exact gRead _ _ _ v _ _

theorem codesRead (v : View sig .tc .vmem S256x5120 .fp8e4m3) (w : View sig .tc .vmem S256x5120 .f32) :
    v.readCov (Val := Elt Ideal) [⟨Rect.unit ![0, 0] S256x5120.size inb_S256x5120_S256x5120_0_0,
        k0_pay20 (k0_pay19 (w.readCov (hPieces x0 x1 x2 x3 x4 x5)
        (Rect.unit ![0, 0] S256x5120.size inb_S256x5120_S256x5120_0_0).toLoadRect)
      (View.ld x6 (Rect.unit ![0, 0] S1x5120.size inb_S1x5120_S1x5120_0_0))
      (View.ld x7 (Rect.unit ![0, 0] S1x5120.size inb_S1x5120_S1x5120_0_0)))⟩]
      (Rect.unit ![0, 0] S256x5120.size inb_S256x5120_S256x5120_0_0).toLoadRect
      = k0_pay20 (k0_pay19 (hBlk x0 x1 x2 x3 x4 x5) x6 x7) :=
  (View.readCov_unit_zero v zero2 _ _).trans (hRead2 x0 x1 x2 x3 x4 x5 x6 x7 w)

theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = k0_pay2 (gOut x0 x1 x2 x3 x4 x5 x6 x7 x8 x9 x10) (k0_pay32 (gOut x0 x1 x2 x3 x4 x5 x6 x7 x8 x9 x10))
    (k0_pay33 (gOut x0 x1 x2 x3 x4 x5 x6 x7 x8 x9 x10)) (Scalar.ofBits (F := Ideal) .f32 0x00000000#32) := by
  unfold out0_A_13
  rw [View.read_writes_eq_canon _ _ _ (fun y => cover0_A_13 c i _ _ _ _ _ _ _ _ _ _ _ _ _ _ _ _ _ _ _ _ _ _ _ _ _ _ _ _ _ _ _ _ x0 x1 x2 x3 x4 x5 x6 x7 x8 x9 x10 y)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, resid_eq, pay5_eq, pay6_eq, pay8_eq, pay9_eq, pay10_eq, pay11_eq, pay12_eq, pay13_eq,
    pay14_eq, pay23_eq, pay25_eq, pay26_eq, pay28_eq, pay29_eq]
  refine (View.canon_unit_zero zero2 _ _).trans ?_
  refine congrArg (fun f => k0_pay2 f (k0_pay32 f) (k0_pay33 f) (Scalar.ofBits (F := Ideal) .f32 0x00000000#32)) ?_
  exact gReadOut x0 x1 x2 x3 x4 x5 x6 x7 x8 x9 x10 arg16.view _ _ (hRead1 x0 x1 x2 x3 x4 x5 x6 x7 arg12.view)
    (codesRead x0 x1 x2 x3 x4 x5 x6 x7 arg13.view arg12.view)

theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = k0_pay3 (k0_pay18 (hBlk x0 x1 x2 x3 x4 x5) x6 x7) (k0_pay32 (gOut x0 x1 x2 x3 x4 x5 x6 x7 x8 x9 x10))
    (k0_pay33 (gOut x0 x1 x2 x3 x4 x5 x6 x7 x8 x9 x10)) (Scalar.ofBits (F := Ideal) .f32 0x00000000#32) := by
  unfold out0_A_14
  rw [View.read_writes_eq_canon _ _ _ (fun y => cover0_A_14 c i _ _ _ _ _ _ _ _ _ _ _ _ _ _ _ _ _ _ _ _ _ _ _ _ _ _ _ _ _ _ _ _ x0 x1 x2 x3 x4 x5 x6 x7 x8 x9 x10 y)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, resid_eq, pay5_eq, pay6_eq, pay8_eq, pay9_eq, pay10_eq, pay11_eq, pay12_eq, pay13_eq,
    pay14_eq, pay23_eq, pay25_eq, pay26_eq, pay28_eq, pay29_eq]
  refine (View.canon_unit_zero zero2 _ _).trans ?_
  refine (congrArg (fun s => k0_pay3 s _ _ _) (hRead1 x0 x1 x2 x3 x4 x5 x6 x7 arg12.view)).trans ?_
  refine congrArg (fun f => k0_pay3 _ (k0_pay32 f) (k0_pay33 f) (Scalar.ofBits (F := Ideal) .f32 0x00000000#32)) ?_
  exact gReadOut x0 x1 x2 x3 x4 x5 x6 x7 x8 x9 x10 arg16.view _ _ (hRead1 x0 x1 x2 x3 x4 x5 x6 x7 arg12.view)
    (codesRead x0 x1 x2 x3 x4 x5 x6 x7 arg13.view arg12.view)

end Outs

end Cert.MlpOneIdeal.Value

end
-- ==== Proof.OnePlain.lean ====
/- The plain reference of the third call (`mlp1`): its run, read element by element. -/
module

public import proofs.«01_k».proof.Proof.Layer
public import proofs.«01_k».proof.Proof.Gen.MlpOnePlainIdeal.Frame
public import Idealize.ShloMosaic.Lib.Pipeline.Value

@[expose] public section

noncomputable section

namespace Cert.MlpOnePlainIdeal.Value

open Cert.MlpOnePlainIdeal Cert.MlpOnePlainIdeal.Gen Cert.Layer Idealize.ShloMosaic Idealize.ShloMosaic.TcCoe Idealize.SL.Sem

/-! ## The payloads -/

theorem h_apply (s : Vec Ideal S16x8192 .f32) (x : Vec Ideal S8192x5120 .bf16) (o : Vec Ideal S8192x1280 .fp8e4m3)
    (w : Vec Ideal S1280x5120 .fp8e4m3) (ws b : Vec Ideal S1x5120 .f32) (r : Fin 8192) (c : Fin 5120) :
    k0_pay1 (View.ld s r0_0) x o w ws b (ix2 r c) = hRow x o s w ws b r c := by
  pointwise [k0_pay1, hRow, lin]

theorem norm_apply (s : Vec Ideal S1x8192 .f32) (x : Vec Ideal S8192x5120 .bf16) (o : Vec Ideal S8192x1280 .fp8e4m3)
    (w : Vec Ideal S1280x5120 .fp8e4m3) (ws b g gb : Vec Ideal S1x5120 .f32) (r : Fin 8192) (c : Fin 5120) :
    k0_pay3 gb (k0_pay2 s x o w ws b g) (ix2 r c) = normRow g gb (fun k => k0_pay1 s x o w ws b (ix2 r k)) c := by
  pointwise [k0_pay3, k0_pay2, normRow, lnorm, mean]

section Codes

variable (gb : Vec Ideal S1x5120 .f32) (v : FVec Ideal S8192x5120 .f32)

theorem expo_eq : k0_pay4 gb v = expoPlain (absmaxV reduces_S8192x5120_S8192 shapeCasts_S8192_S8192x1 (k0_pay3 gb v)) := rfl

theorem expo_apply (r : Fin 8192) : k0_pay4 gb v (ix2 r 0) = expo (absmax fun k => k0_pay3 gb v (ix2 r k)) := by
  rw [expo_eq, expoPlain_apply, absmaxV_apply (.inr rfl)]

theorem code_eq : k0_pay6 gb v = codeV broadcasts_S8192x1_S8192x5120 (k0_pay3 gb v) (k0_pay4 gb v) := rfl

theorem code_apply (r : Fin 8192) (c : Fin 5120) : k0_pay6 gb v (ix2 r c) = code (fun k => k0_pay3 gb v (ix2 r k)) c := by
  rw [code_eq, codeV_apply (.inr rfl), expo_apply, code]

theorem scale_eq : k0_pay5 gb v = exp2 (k0_pay4 gb v) := rfl

theorem scale_apply (r : Fin 8192) : k0_pay5 gb v (ix2 r 0) = scale fun k => k0_pay3 gb v (ix2 r k) := by
  rw [scale_eq, exp2_apply, expo_apply, scale]

theorem gelu_apply (w : Vec Ideal S5120x3456 .fp8e4m3) (ws b : Vec Ideal S1x3456 .f32) (r : Fin 8192) (c : Fin 3456) :
    k0_pay10 (k0_pay7 gb v w ws b) (k0_pay8 gb v w ws b) k0_pay9 (ix2 r c)
      = gRow w ws b (scale fun k => k0_pay3 gb v (ix2 r k)) (code fun k => k0_pay3 gb v (ix2 r k)) c := by
  have e : k0_pay10 (k0_pay7 gb v w ws b) (k0_pay8 gb v w ws b) k0_pay9 (ix2 r c)
      = gRow w ws b (k0_pay5 gb v (ix2 r 0)) (fun k => k0_pay6 gb v (ix2 r k)) c := by
    pointwise [k0_pay10, k0_pay7, k0_pay8, k0_pay9, gRow, gelu, lin]
  rw [e, scale_apply]
  simp only [code_apply]

end Codes

section GeluCodes

variable (p q z : FVec Ideal S8192x3456 .f32)

theorem gexpo_eq : k0_pay11 p q z = expoPlain (absmaxV reduces_S8192x3456_S8192 shapeCasts_S8192_S8192x1 (k0_pay10 p q z)) := rfl

theorem gexpo_apply (r : Fin 8192) : k0_pay11 p q z (ix2 r 0) = expo (absmax fun k => k0_pay10 p q z (ix2 r k)) := by
  rw [gexpo_eq, expoPlain_apply, absmaxV_apply (.inr rfl)]

theorem gcode_eq : k0_pay12 p q z = codeV broadcasts_S8192x1_S8192x3456 (k0_pay10 p q z) (k0_pay11 p q z) := rfl

theorem gcode_apply (r : Fin 8192) (c : Fin 3456) : k0_pay12 p q z (ix2 r c) = code (fun k => k0_pay10 p q z (ix2 r k)) c := by
  rw [gcode_eq, codeV_apply (.inr rfl), gexpo_apply, code]

/-- The packed scales, as printed: two columns, fourteen zero columns behind them, transposed. -/
@[irreducible] def packV (s e : FVec Ideal S8192x1 .f32) : FVec Ideal S16x8192 .f32 :=
  transpose S16x8192 [1, 0]
    (concatenate S8192x16 1
      [⟨S8192x2, concatenate S8192x2 1 [⟨S8192x1, s⟩, ⟨S8192x1, e⟩] concatenates_S8192x1_S8192x1_S8192x2_d1⟩,
        ⟨S8192x14, broadcast S8192x14 (Scalar.ofBits (F := Ideal) .f32 0x00000000#32)⟩]
      concatenates_S8192x2_S8192x14_S8192x16_d1) transposes_S8192x16_p1_0_S16x8192

theorem packV_apply (s e : FVec Ideal S8192x1 .f32) (k : Fin 16) (r : Fin 8192) :
    packV s e (ix2 k r) = pack2 (s (ix2 r 0)) (e (ix2 r 0)) k := by
  unfold packV
  refine (transpose_apply _ _ _ _ (ix2 r k) fun c => match c with | ⟨0, _⟩ => rfl | ⟨1, _⟩ => rfl).trans ?_
  by_cases h : k.val < 2
  · refine (concatenate_pair_apply_left (t := S8192x16) (s₁ := S8192x2) (s₂ := S8192x14) (1 : Fin 2) _ _ _ _ rfl (ix2 r (⟨k.val, h⟩ : Fin 2)) ?_).trans ?_
    · intro b; match b with | ⟨0, _⟩ => rfl | ⟨1, _⟩ => rfl
    by_cases h0 : k.val = 0
    · obtain rfl : k = 0 := Fin.ext h0
      refine (concatenate_pair_apply_left (t := S8192x2) (s₁ := S8192x1) (s₂ := S8192x1) (1 : Fin 2) _ _ _ _ rfl (ix2 r (0 : Fin 1)) ?_).trans (by rw [pack2, if_pos rfl])
      intro b; match b with | ⟨0, _⟩ => rfl | ⟨1, _⟩ => rfl
    · obtain rfl : k = 1 := Fin.ext (by show k.val = 1; omega)
      refine (concatenate_pair_apply_right (t := S8192x2) (s₁ := S8192x1) (s₂ := S8192x1) (1 : Fin 2) _ _ _ _ rfl rfl (ix2 r (0 : Fin 1)) ?_ ?_).trans
        (by rw [pack2, if_neg (by decide), if_pos rfl])
      · intro b hb; match b, hb with | ⟨0, _⟩, _ => rfl | ⟨1, _⟩, hb => exact absurd rfl hb
      · rfl
  · have hk : k.val - 2 < 14 := by omega
    refine (concatenate_pair_apply_right (t := S8192x16) (s₁ := S8192x2) (s₂ := S8192x14) (1 : Fin 2) _ _ _ _ rfl rfl (ix2 r (⟨k.val - 2, hk⟩ : Fin 14)) ?_ ?_).trans ?_
    · intro b hb; match b, hb with | ⟨0, _⟩, _ => rfl | ⟨1, _⟩, hb => exact absurd rfl hb
    · show k.val - 2 + 2 = k.val; omega
    · rw [pack2, if_neg (by rintro rfl; exact h (by decide)), if_neg (by rintro rfl; exact h (by decide))]
      pointwise []

theorem pack_eq (s : FVec Ideal S8192x1 .f32) : k0_pay13 s p q z = packV s (exp2 (k0_pay11 p q z)) := by
  unfold packV
  rfl

theorem pack_apply (s : FVec Ideal S8192x1 .f32) (k : Fin 16) (r : Fin 8192) :
    k0_pay13 s p q z (ix2 k r)
      = pack2 (s (ix2 r 0)) (FloatOps.exp2 (F := Ideal) (φ := .f32) (k0_pay11 p q z (ix2 r 0))) k := by
  rw [pack_eq, packV_apply, exp2_apply]

end GeluCodes

/-! ## The four outputs -/

theorem zero2 : (![0, 0] : Fin 2 → Nat) = fun _ => 0 := funext fun a => by fin_cases a <;> rfl

section Outs

variable (x0 : Vec Ideal S8192x5120 .bf16) (x1 : Vec Ideal S8192x1280 .fp8e4m3) (x2 : Vec Ideal S16x8192 .f32)
  (x3 : Vec Ideal S1280x5120 .fp8e4m3) (x4 x5 x6 x7 : Vec Ideal S1x5120 .f32) (x8 : Vec Ideal S5120x3456 .fp8e4m3)
  (x9 x10 : Vec Ideal S1x3456 .f32)

theorem ld0 : View.ld x0 r0_1 = x0 := View.ld_unit_zero zero2 _ _
theorem ld1 : View.ld x1 r0_2 = x1 := View.ld_unit_zero zero2 _ _
theorem ld3 : View.ld x3 r0_3 = x3 := View.ld_unit_zero zero2 _ _
theorem ld4 : View.ld x4 r0_4 = x4 := View.ld_unit_zero zero2 _ _
theorem ld8 : View.ld x8 r0_5 = x8 := View.ld_unit_zero zero2 _ _
theorem ld9 : View.ld x9 r0_6 = x9 := View.ld_unit_zero zero2 _ _

theorem out11 : out0_11 x0 x1 x2 x3 x4 x5 x6 x7 x8 x9 x10 = hAll x0 x1 x2 x3 x4 x5 := by
  unfold out0_11
  rw [ld0, ld1, ld3, ld4, ld4]
  refine (View.canon_unit_zero zero2 _ _).trans ?_
  funext y
  rw [eq_ix2 y]
  exact h_apply x2 x0 x1 x3 x4 x5 _ _

theorem norm_row (r : Fin 8192) :
    (fun k => k0_pay3 x7 (k0_pay14 x0 x1 x2 x3 x4 x5 x6 x7 x8 x9 x10) (ix2 r k)) = normRow x6 x7 (hRow x0 x1 x2 x3 x4 x5 r) := by
  unfold k0_pay14
  rw [ld0, ld1, ld3, ld4, ld4, ld4]
  funext k
  rw [norm_apply]
  simp only [h_apply]

theorem gelu_row (r : Fin 8192) :
    (fun k => k0_pay10 (k0_pay15 x0 x1 x2 x3 x4 x5 x6 x7 x8 x9 x10) (k0_pay16 x0 x1 x2 x3 x4 x5 x6 x7 x8 x9 x10)
      (k0_pay17 x0 x1 x2 x3 x4 x5 x6 x7 x8 x9 x10) (ix2 r k)) = geluRow x6 x7 x8 x9 x10 (hRow x0 x1 x2 x3 x4 x5 r) := by
  unfold k0_pay15 k0_pay16 k0_pay17
  rw [ld4, ld8, ld9, ld9]
  funext k
  rw [gelu_apply, norm_row, geluRow]

theorem out12 : out0_12 x0 x1 x2 x3 x4 x5 x6 x7 x8 x9 x10 = aAll x0 x1 x2 x3 x4 x5 x6 x7 := by
  unfold out0_12
  rw [ld4]
  refine (View.canon_unit_zero zero2 _ _).trans ?_
  funext y
  obtain ⟨r, c, rfl⟩ : ∃ (r : Fin 8192) (c : Fin 5120), y = ix2 r c := ⟨y 0, y 1, eq_ix2 y⟩
  rw [code_apply, norm_row]
  rfl

theorem out13 : out0_13 x0 x1 x2 x3 x4 x5 x6 x7 x8 x9 x10 = gAll x0 x1 x2 x3 x4 x5 x6 x7 x8 x9 x10 := by
  unfold out0_13
  refine (View.canon_unit_zero zero2 _ _).trans ?_
  funext y
  obtain ⟨r, c, rfl⟩ : ∃ (r : Fin 8192) (c : Fin 3456), y = ix2 r c := ⟨y 0, y 1, eq_ix2 y⟩
  rw [gcode_apply, gelu_row]
  rfl

theorem out14 : out0_14 x0 x1 x2 x3 x4 x5 x6 x7 x8 x9 x10 = sAll x0 x1 x2 x3 x4 x5 x6 x7 x8 x9 x10 := by
  unfold out0_14
  rw [ld4]
  refine (View.canon_unit_zero zero2 _ _).trans ?_
  funext y
  obtain ⟨k, r, rfl⟩ : ∃ (k : Fin 16) (r : Fin 8192), y = ix2 k r := ⟨y 0, y 1, eq_ix2 y⟩
  rw [pack_apply, scale_apply, norm_row, gexpo_apply, gelu_row, ← scale]
  rfl

end Outs

/-! ## The run: the grid is one point, and every block is its whole array -/

variable (m : (ℓ : Loc nD τ sig) → Buf (Elt Ideal) ℓ) (ρ : Dev nD → PrngReg)

theorem emb0 (t : Fin cfg0.N) (j : S8192x5120.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 8192 + 1 * (j 0).val = (j 0).val; omega
  | ⟨1, _⟩ => show win0_0.index t (1 : Fin 2) * 5120 + 1 * (j 1).val = (j 1).val; omega

theorem emb1 (t : Fin cfg0.N) (j : S8192x1280.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 8192 + 1 * (j 0).val = (j 0).val; omega
  | ⟨1, _⟩ => show win0_1.index t (1 : Fin 2) * 1280 + 1 * (j 1).val = (j 1).val; omega

theorem emb2 (t : Fin cfg0.N) (j : S16x8192.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 16 + 1 * (j 0).val = (j 0).val; omega
  | ⟨1, _⟩ => show win0_2.index t (1 : Fin 2) * 8192 + 1 * (j 1).val = (j 1).val; omega

theorem emb3 (t : Fin cfg0.N) (j : S1280x5120.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1280 + 1 * (j 0).val = (j 0).val; omega
  | ⟨1, _⟩ => show win0_3.index t (1 : Fin 2) * 5120 + 1 * (j 1).val = (j 1).val; omega

theorem emb4 (t : Fin cfg0.N) (j : S1x5120.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 5120 + 1 * (j 1).val = (j 1).val; omega

theorem emb5 (t : Fin cfg0.N) (j : S1x5120.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

theorem emb6 (t : Fin cfg0.N) (j : S1x5120.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 1 + 1 * (j 0).val = (j 0).val; omega
  | ⟨1, _⟩ => show win0_6.index t (1 : Fin 2) * 5120 + 1 * (j 1).val = (j 1).val; omega

theorem emb7 (t : Fin cfg0.N) (j : S1x5120.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 1 + 1 * (j 0).val = (j 0).val; omega
  | ⟨1, _⟩ => show win0_7.index t (1 : Fin 2) * 5120 + 1 * (j 1).val = (j 1).val; omega

theorem emb8 (t : Fin cfg0.N) (j : S5120x3456.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 5120 + 1 * (j 0).val = (j 0).val; omega
  | ⟨1, _⟩ => show win0_8.index t (1 : Fin 2) * 3456 + 1 * (j 1).val = (j 1).val; omega

theorem emb9 (t : Fin cfg0.N) (j : S1x3456.Idx) : ((cfg0.win 9).blk t).view.emb j = j := by
  obtain ⟨e0, e1⟩ := (by decide +kernel : ∀ t : Fin grid0.N, win0_9.index t (0 : Fin 2) = 0 ∧ win0_9.index t (1 : Fin 2) = 0) t
  funext a; apply Fin.ext
  match a with
  | ⟨0, _⟩ => show win0_9.index t (0 : Fin 2) * 1 + 1 * (j 0).val = (j 0).val; omega
  | ⟨1, _⟩ => show win0_9.index t (1 : Fin 2) * 3456 + 1 * (j 1).val = (j 1).val; omega

theorem emb10 (t : Fin cfg0.N) (j : S1x3456.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 1 + 1 * (j 0).val = (j 0).val; omega
  | ⟨1, _⟩ => show win0_10.index t (1 : Fin 2) * 3456 + 1 * (j 1).val = (j 1).val; omega

theorem emb11 (t : Fin cfg0.N) (j : S8192x5120.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 8192 + 1 * (j 0).val = (j 0).val; omega
  | ⟨1, _⟩ => show win0_11.index t (1 : Fin 2) * 5120 + 1 * (j 1).val = (j 1).val; omega

theorem emb12 (t : Fin cfg0.N) (j : S8192x5120.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 8192 + 1 * (j 0).val = (j 0).val; omega
  | ⟨1, _⟩ => show win0_12.index t (1 : Fin 2) * 5120 + 1 * (j 1).val = (j 1).val; omega

theorem emb13 (t : Fin cfg0.N) (j : S8192x3456.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 8192 + 1 * (j 0).val = (j 0).val; omega
  | ⟨1, _⟩ => show win0_13.index t (1 : Fin 2) * 3456 + 1 * (j 1).val = (j 1).val; omega

theorem emb14 (t : Fin cfg0.N) (j : S16x8192.Idx) : ((cfg0.win 14).blk t).view.emb j = j := by
  obtain ⟨e0, e1⟩ := (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 16 + 1 * (j 0).val = (j 0).val; omega
  | ⟨1, _⟩ => show win0_14.index t (1 : Fin 2) * 8192 + 1 * (j 1).val = (j 1).val; omega

theorem iblk0 (c : Dev nD) (t : Fin cfg0.N) : iblk m c 0 t = V m c main_arg0 :=
  funext fun j => congrArg (V m c main_arg0) (emb0 t j)

theorem iblk1 (c : Dev nD) (t : Fin cfg0.N) : iblk m c 1 t = V m c main_arg1 :=
  funext fun j => congrArg (V m c main_arg1) (emb1 t j)

theorem iblk2 (c : Dev nD) (t : Fin cfg0.N) : iblk m c 2 t = V m c main_arg2 :=
  funext fun j => congrArg (V m c main_arg2) (emb2 t j)

theorem iblk3 (c : Dev nD) (t : Fin cfg0.N) : iblk m c 3 t = V m c main_arg3 :=
  funext fun j => congrArg (V m c main_arg3) (emb3 t j)

theorem iblk4 (c : Dev nD) (t : Fin cfg0.N) : iblk m c 4 t = V m c main_arg4 :=
  funext fun j => congrArg (V m c main_arg4) (emb4 t j)

theorem iblk5 (c : Dev nD) (t : Fin cfg0.N) : iblk m c 5 t = V m c main_arg5 :=
  funext fun j => congrArg (V m c main_arg5) (emb5 t j)

theorem iblk6 (c : Dev nD) (t : Fin cfg0.N) : iblk m c 6 t = V m c main_arg6 :=
  funext fun j => congrArg (V m c main_arg6) (emb6 t j)

theorem iblk7 (c : Dev nD) (t : Fin cfg0.N) : iblk m c 7 t = V m c main_arg7 :=
  funext fun j => congrArg (V m c main_arg7) (emb7 t j)

theorem iblk8 (c : Dev nD) (t : Fin cfg0.N) : iblk m c 8 t = V m c main_arg8 :=
  funext fun j => congrArg (V m c main_arg8) (emb8 t j)

theorem iblk9 (c : Dev nD) (t : Fin cfg0.N) : iblk m c 9 t = V m c main_arg9 :=
  funext fun j => congrArg (V m c main_arg9) (emb9 t j)

theorem iblk10 (c : Dev nD) (t : Fin cfg0.N) : iblk m c 10 t = V m c main_arg10 :=
  funext fun j => congrArg (V m c main_arg10) (emb10 t j)

theorem final11 (c : Dev nD) : (dats m 0 c).arrAt 11 cfg0.N
    = hAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 11 (hAll (V m c main_arg0) (V m c main_arg1) (V m c main_arg2) (V m c main_arg3) (V m c main_arg4) (V m c main_arg5)) (fun t _ => ?_)
    fun i => ⟨(⟨0, by decide⟩ : Fin cfg0.N), flush0_11 _, ?_⟩
  · show (cfg0.win 11).cut (grid0.coords t) ((dats m 0 c).after 11 t) = _
    rw [after0_11, out11, iblk0, iblk1, iblk2, iblk3, iblk4, iblk5]
    exact funext fun j => congrArg (hAll (V m c main_arg0) (V m c main_arg1) (V m c main_arg2) (V m c main_arg3) (V m c main_arg4) (V m c main_arg5)) (emb11 t j).symm
  · have h := ((cfg0.win 11).blk (⟨0, by decide⟩ : Fin cfg0.N)).view.emb_mem_set i
    rwa [emb11] at h

theorem final12 (c : Dev nD) : (dats m 0 c).arrAt 12 cfg0.N
    = aAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 12 (aAll (V m c main_arg0) (V m c main_arg1) (V m c main_arg2) (V m c main_arg3) (V m c main_arg4) (V m c main_arg5) (V m c main_arg6) (V m c main_arg7)) (fun t _ => ?_)
    fun i => ⟨(⟨0, by decide⟩ : Fin cfg0.N), flush0_12 _, ?_⟩
  · show (cfg0.win 12).cut (grid0.coords t) ((dats m 0 c).after 12 t) = _
    rw [after0_12, out12, iblk0, iblk1, iblk2, iblk3, iblk4, iblk5, iblk6, iblk7]
    exact funext fun j => congrArg (aAll (V m c main_arg0) (V m c main_arg1) (V m c main_arg2) (V m c main_arg3) (V m c main_arg4) (V m c main_arg5) (V m c main_arg6) (V m c main_arg7)) (emb12 t j).symm
  · have h := ((cfg0.win 12).blk (⟨0, by decide⟩ : Fin cfg0.N)).view.emb_mem_set i
    rwa [emb12] at h

theorem final13 (c : Dev nD) : (dats m 0 c).arrAt 13 cfg0.N
    = gAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_cover 13 (gAll (V m c main_arg0) (V m c main_arg1) (V m c main_arg2) (V m c main_arg3) (V m c main_arg4) (V m c main_arg5) (V m c main_arg6) (V m c main_arg7) (V m c main_arg8) (V m c main_arg9) (V m c main_arg10)) (fun t _ => ?_)
    fun i => ⟨(⟨0, by decide⟩ : Fin cfg0.N), flush0_13 _, ?_⟩
  · show (cfg0.win 13).cut (grid0.coords t) ((dats m 0 c).after 13 t) = _
    rw [after0_13, out13, iblk0, iblk1, iblk2, iblk3, iblk4, iblk5, iblk6, iblk7, iblk8, iblk9, iblk10]
    exact funext fun j => congrArg (gAll (V m c main_arg0) (V m c main_arg1) (V m c main_arg2) (V m c main_arg3) (V m c main_arg4) (V m c main_arg5) (V m c main_arg6) (V m c main_arg7) (V m c main_arg8) (V m c main_arg9) (V m c main_arg10)) (emb13 t j).symm
  · have h := ((cfg0.win 13).blk (⟨0, by decide⟩ : Fin cfg0.N)).view.emb_mem_set i
    rwa [emb13] at h

theorem final14 (c : Dev nD) : (dats m 0 c).arrAt 14 cfg0.N
    = sAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_cover 14 (sAll (V m c main_arg0) (V m c main_arg1) (V m c main_arg2) (V m c main_arg3) (V m c main_arg4) (V m c main_arg5) (V m c main_arg6) (V m c main_arg7) (V m c main_arg8) (V m c main_arg9) (V m c main_arg10)) (fun t _ => ?_)
    fun i => ⟨(⟨0, by decide⟩ : Fin cfg0.N), flush0_14 _, ?_⟩
  · show (cfg0.win 14).cut (grid0.coords t) ((dats m 0 c).after 14 t) = _
    rw [after0_14, out14, iblk0, iblk1, iblk2, iblk3, iblk4, iblk5, iblk6, iblk7, iblk8, iblk9, iblk10]
    exact funext fun j => congrArg (sAll (V m c main_arg0) (V m c main_arg1) (V m c main_arg2) (V m c main_arg3) (V m c main_arg4) (V m c main_arg5) (V m c main_arg6) (V m c main_arg7) (V m c main_arg8) (V m c main_arg9) (V m c main_arg10)) (emb14 t j).symm
  · have h := ((cfg0.win 14).blk (⟨0, by decide⟩ : Fin cfg0.N)).view.emb_mem_set i
    rwa [emb14] at h

/-- An argument's array is as launched. -/
theorem kept (r : PUnit × MemSt nD τ sig (Elt Ideal)) (h : Pipeline.FramePost cfgs (dats m) 0 (V m) r) (c : Dev nD) (w : Fin cfg0.W)
    (hw : (cfg0.win w).isOut = false) : r.2.mem ((c : Thread nD τ).loc (Pipeline.arrRef spec0 w)) = V m c (Pipeline.arrRef spec0 w) :=
  ((h c).1 w).trans (((dats m 0 c).arrAt_in w hw _).trans (A_eq m c w))

theorem run : θ_run defs (onTc (τ := τ) (main (F := Ideal))) ⟨m, fun _ => 0, ρ⟩ fun r => ∀ c : Dev nD,
      r.2.mem ((c : Thread nD τ).loc main_v0_0) = hAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = aAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = gAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_3) = sAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 11).trans (final11 m c), ((h c).1 12).trans (final12 m c), ((h c).1 13).trans (final13 m c), ((h c).1 14).trans (final14 m c),
    kept m r h c 0 rfl, kept m r h c 1 rfl, kept m r h c 2 rfl, kept m r h c 3 rfl, kept m r h c 4 rfl, kept m r h c 5 rfl, kept m r h c 6 rfl, kept m r h c 7 rfl, kept m r h c 8 rfl, kept m r h c 9 rfl, kept m r h c 10 rfl⟩)
    (run_main m ρ)

end Cert.MlpOnePlainIdeal.Value

end
-- ==== Proof.One.lean ====
/- The third call (`mlp1`) against the plain reference: every element of its four results. -/
module

public import proofs.«01_k».proof.Defs
public import proofs.«01_k».proof.Proof.OneBlock
public import proofs.«01_k».proof.Proof.OnePlain

@[expose] public section

noncomputable section

namespace Cert.MlpOneIdeal.Value

open Cert.MlpOneIdeal Cert.MlpOneIdeal.Gen Cert.Layer Idealize.ShloMosaic Idealize.ShloMosaic.TcCoe Idealize.SL.Sem

variable (m : (ℓ : Loc nD τ sig) → Buf (Elt Ideal) ℓ)

/-- Row `r` of grid point `t`'s block. -/
def row (t : Fin cfg0.N) (r : Fin 256) : Fin 8192 := ⟨t.val * 256 + r.val, by have : t.val < 32 := t.isLt; omega⟩

theorem emb0 (t : Fin cfg0.N) (r : Fin 256) (k : Fin 5120) : ((cfg0.win 0).blk t).view.emb (ix2 r k) = ix2 (row t r) k := by
  obtain ⟨e0, e1⟩ := (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 256 + 1 * r.val = t.val * 256 + r.val; omega
  | ⟨1, _⟩ => show win0_0.index t (1 : Fin 2) * 5120 + 1 * k.val = k.val; omega

theorem emb1 (t : Fin cfg0.N) (r : Fin 256) (k : Fin 1280) : ((cfg0.win 1).blk t).view.emb (ix2 r k) = ix2 (row t r) k := by
  obtain ⟨e0, e1⟩ := (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 256 + 1 * r.val = t.val * 256 + r.val; omega
  | ⟨1, _⟩ => show win0_1.index t (1 : Fin 2) * 1280 + 1 * k.val = k.val; omega

theorem emb2 (t : Fin cfg0.N) (k : Fin 16) (r : Fin 256) : ((cfg0.win 2).blk t).view.emb (ix2 k r) = ix2 k (row t r) := by
  obtain ⟨e0, e1⟩ := (by decide +kernel : ∀ t : Fin grid0.N, win0_2.index t (0 : Fin 2) = 0 ∧ win0_2.index t (1 : Fin 2) = t.val) t
  funext a; apply Fin.ext
  match a with
  | ⟨0, _⟩ => show win0_2.index t (0 : Fin 2) * 16 + 1 * k.val = k.val; omega
  | ⟨1, _⟩ => show win0_2.index t (1 : Fin 2) * 256 + 1 * r.val = t.val * 256 + r.val; omega

theorem emb3 (t : Fin cfg0.N) (j : S1280x5120.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1280 + 1 * (j 0).val = (j 0).val; omega
  | ⟨1, _⟩ => show win0_3.index t (1 : Fin 2) * 5120 + 1 * (j 1).val = (j 1).val; omega

theorem emb4 (t : Fin cfg0.N) (j : S1x5120.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 5120 + 1 * (j 1).val = (j 1).val; omega

theorem emb5 (t : Fin cfg0.N) (j : S1x5120.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

theorem emb6 (t : Fin cfg0.N) (j : S1x5120.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 1 + 1 * (j 0).val = (j 0).val; omega
  | ⟨1, _⟩ => show win0_6.index t (1 : Fin 2) * 5120 + 1 * (j 1).val = (j 1).val; omega

theorem emb7 (t : Fin cfg0.N) (j : S1x5120.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 1 + 1 * (j 0).val = (j 0).val; omega
  | ⟨1, _⟩ => show win0_7.index t (1 : Fin 2) * 5120 + 1 * (j 1).val = (j 1).val; omega

theorem emb8 (t : Fin cfg0.N) (j : S5120x3456.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 5120 + 1 * (j 0).val = (j 0).val; omega
  | ⟨1, _⟩ => show win0_8.index t (1 : Fin 2) * 3456 + 1 * (j 1).val = (j 1).val; omega

theorem emb9 (t : Fin cfg0.N) (j : S1x3456.Idx) : ((cfg0.win 9).blk t).view.emb j = j := by
  obtain ⟨e0, e1⟩ := (by decide +kernel : ∀ t : Fin grid0.N, win0_9.index t (0 : Fin 2) = 0 ∧ win0_9.index t (1 : Fin 2) = 0) t
  funext a; apply Fin.ext
  match a with
  | ⟨0, _⟩ => show win0_9.index t (0 : Fin 2) * 1 + 1 * (j 0).val = (j 0).val; omega
  | ⟨1, _⟩ => show win0_9.index t (1 : Fin 2) * 3456 + 1 * (j 1).val = (j 1).val; omega

theorem emb10 (t : Fin cfg0.N) (j : S1x3456.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 1 + 1 * (j 0).val = (j 0).val; omega
  | ⟨1, _⟩ => show win0_10.index t (1 : Fin 2) * 3456 + 1 * (j 1).val = (j 1).val; omega

theorem emb11 (t : Fin cfg0.N) (r : Fin 256) (k : Fin 5120) : ((cfg0.win 11).blk t).view.emb (ix2 r k) = ix2 (row t r) k := by
  obtain ⟨e0, e1⟩ := (by decide +kernel : ∀ t : Fin grid0.N, win0_11.index t (0 : Fin 2) = t.val ∧ win0_11.index t (1 : Fin 2) = 0) t
  funext a; apply Fin.ext
  match a with
  | ⟨0, _⟩ => show win0_11.index t (0 : Fin 2) * 256 + 1 * r.val = t.val * 256 + r.val; omega
  | ⟨1, _⟩ => show win0_11.index t (1 : Fin 2) * 5120 + 1 * k.val = k.val; omega

theorem emb12 (t : Fin cfg0.N) (r : Fin 256) (k : Fin 5120) : ((cfg0.win 12).blk t).view.emb (ix2 r k) = ix2 (row t r) k := by
  obtain ⟨e0, e1⟩ := (by decide +kernel : ∀ t : Fin grid0.N, win0_12.index t (0 : Fin 2) = t.val ∧ win0_12.index t (1 : Fin 2) = 0) t
  funext a; apply Fin.ext
  match a with
  | ⟨0, _⟩ => show win0_12.index t (0 : Fin 2) * 256 + 1 * r.val = t.val * 256 + r.val; omega
  | ⟨1, _⟩ => show win0_12.index t (1 : Fin 2) * 5120 + 1 * k.val = k.val; omega

theorem emb13 (t : Fin cfg0.N) (r : Fin 256) (k : Fin 3456) : ((cfg0.win 13).blk t).view.emb (ix2 r k) = ix2 (row t r) k := by
  obtain ⟨e0, e1⟩ := (by decide +kernel : ∀ t : Fin grid0.N, win0_13.index t (0 : Fin 2) = t.val ∧ win0_13.index t (1 : Fin 2) = 0) t
  funext a; apply Fin.ext
  match a with
  | ⟨0, _⟩ => show win0_13.index t (0 : Fin 2) * 256 + 1 * r.val = t.val * 256 + r.val; omega
  | ⟨1, _⟩ => show win0_13.index t (1 : Fin 2) * 3456 + 1 * k.val = k.val; omega

theorem emb14 (t : Fin cfg0.N) (k : Fin 16) (r : Fin 256) : ((cfg0.win 14).blk t).view.emb (ix2 k r) = ix2 k (row t r) := by
  obtain ⟨e0, e1⟩ := (by decide +kernel : ∀ t : Fin grid0.N, win0_14.index t (0 : Fin 2) = 0 ∧ win0_14.index t (1 : Fin 2) = t.val) t
  funext a; apply Fin.ext
  match a with
  | ⟨0, _⟩ => show win0_14.index t (0 : Fin 2) * 16 + 1 * k.val = k.val; omega
  | ⟨1, _⟩ => show win0_14.index t (1 : Fin 2) * 256 + 1 * r.val = t.val * 256 + r.val; omega

/-! What the input windows hold at a grid point: rows of the arrays, or whole arrays. -/

section Blocks

variable (c : Dev nD) (t : Fin cfg0.N)

theorem iblk3 : iblk m c 3 t = V m c main_arg3 := funext fun i => congrArg (V m c main_arg3) (emb3 t i)

theorem iblk4 : iblk m c 4 t = V m c main_arg4 := funext fun i => congrArg (V m c main_arg4) (emb4 t i)

theorem iblk5 : iblk m c 5 t = V m c main_arg5 := funext fun i => congrArg (V m c main_arg5) (emb5 t i)

theorem iblk6 : iblk m c 6 t = V m c main_arg6 := funext fun i => congrArg (V m c main_arg6) (emb6 t i)

theorem iblk7 : iblk m c 7 t = V m c main_arg7 := funext fun i => congrArg (V m c main_arg7) (emb7 t i)

theorem iblk8 : iblk m c 8 t = V m c main_arg8 := funext fun i => congrArg (V m c main_arg8) (emb8 t i)

theorem iblk9 : iblk m c 9 t = V m c main_arg9 := funext fun i => congrArg (V m c main_arg9) (emb9 t i)

theorem iblk10 : iblk m c 10 t = V m c main_arg10 := funext fun i => congrArg (V m c main_arg10) (emb10 t i)

/-- A row of the residual's block is that row of the residual. -/
theorem hRow_blk (r : Fin 256) : hRow (n := 256) (iblk m c 0 t) (iblk m c 1 t) (iblk m c 2 t) (iblk m c 3 t) (iblk m c 4 t) (iblk m c 5 t) r
    = hRow (n := 8192) (V m c main_arg0) (V m c main_arg1) (V m c main_arg2) (V m c main_arg3) (V m c main_arg4) (V m c main_arg5) (row t r) :=
  hRow_congr (fun k => congrArg (V m c main_arg0) (emb0 t r k)) (fun k => congrArg (V m c main_arg1) (emb1 t r k))
    (fun k => congrArg (V m c main_arg2) (emb2 t k r)) (iblk3 m c t) (iblk4 m c t) (iblk5 m c t)

end Blocks

/-! What the body leaves, row by row, in terms of the residual's row. -/

section Rows

variable (x0 : Vec Ideal S256x5120 .bf16) (x1 : Vec Ideal S256x1280 .fp8e4m3) (x2 : Vec Ideal S16x256 .f32)
  (x3 : Vec Ideal S1280x5120 .fp8e4m3) (x4 x5 x6 x7 : Vec Ideal S1x5120 .f32) (x8 : Vec Ideal S5120x3456 .fp8e4m3)
  (x9 x10 : Vec Ideal S1x3456 .f32)

theorem hBlk_row (r : Fin 256) : (fun k => hBlk x0 x1 x2 x3 x4 x5 (ix2 r k)) = hRow x0 x1 x2 x3 x4 x5 r := rfl

theorem gOut_row (r : Fin 256) : (fun k => gOut x0 x1 x2 x3 x4 x5 x6 x7 x8 x9 x10 (ix2 r k))
    = geluRow x6 x7 x8 x9 x10 (hRow x0 x1 x2 x3 x4 x5 r) := by
  funext k
  show gRow x8 x9 x10 (k0_pay18 (hBlk x0 x1 x2 x3 x4 x5) x6 x7 (ix2 r 0))
    (fun k => k0_pay20 (k0_pay19 (hBlk x0 x1 x2 x3 x4 x5) x6 x7) (ix2 r k)) k = _
  simp only [scale_apply, code_apply, hBlk_row, geluRow]

end Rows

/-! ## The four arrays -/

theorem final11 (c : Dev nD) : (dats m 0 c).arrAt 11 cfg0.N
    = hAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 11 (hAll (n := 8192) (V m c main_arg0) (V m c main_arg1) (V m c main_arg2) (V m c main_arg3) (V m c main_arg4) (V m c main_arg5)) (fun t _ => ?_) fun i => ?_
  · rw [flushed11_A, out11]
    refine funext fun (j : S256x5120.Idx) => ?_
    obtain ⟨r, k, rfl⟩ : ∃ (r : Fin 256) (k : Fin 5120), j = ix2 r k := ⟨j 0, j 1, eq_ix2 j⟩
    refine Eq.trans ?_ (congrArg (hAll (n := 8192) (V m c main_arg0) (V m c main_arg1) (V m c main_arg2) (V m c main_arg3) (V m c main_arg4) (V m c main_arg5)) (emb11 t r k)).symm
    exact congrFun (hRow_blk m c t r) k
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_11 _, ?_⟩
    have e : ((cfg0.win 11).blk t).view.emb (ix2 ⟨(i 0).val % 256, Nat.mod_lt _ (by decide)⟩ (i 1)) = i :=
      (emb11 t _ _).trans (by
        funext a; apply Fin.ext
        match a with
        | ⟨0, _⟩ => show t.val * 256 + (i 0).val % 256 = (i 0).val; omega
        | ⟨1, _⟩ => rfl)
    exact e ▸ ((cfg0.win 11).blk t).view.emb_mem_set (ix2 ⟨(i 0).val % 256, Nat.mod_lt _ (by decide)⟩ (i 1))

theorem final12 (c : Dev nD) : (dats m 0 c).arrAt 12 cfg0.N
    = aAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 12 (aAll (n := 8192) (V m c main_arg0) (V m c main_arg1) (V m c main_arg2) (V m c main_arg3) (V m c main_arg4) (V m c main_arg5) (V m c main_arg6) (V m c main_arg7)) (fun t _ => ?_) fun i => ?_
  · rw [flushed12_A, out12]
    refine funext fun (j : S256x5120.Idx) => ?_
    obtain ⟨r, k, rfl⟩ : ∃ (r : Fin 256) (k : Fin 5120), j = ix2 r k := ⟨j 0, j 1, eq_ix2 j⟩
    refine Eq.trans ?_ (congrArg (aAll (n := 8192) (V m c main_arg0) (V m c main_arg1) (V m c main_arg2) (V m c main_arg3) (V m c main_arg4) (V m c main_arg5) (V m c main_arg6) (V m c main_arg7)) (emb12 t r k)).symm
    refine (code_apply _ _ _ r k).trans ?_
    rw [hBlk_row, hRow_blk, iblk6, iblk7]
    rfl
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_12 _, ?_⟩
    have e : ((cfg0.win 12).blk t).view.emb (ix2 ⟨(i 0).val % 256, Nat.mod_lt _ (by decide)⟩ (i 1)) = i :=
      (emb12 t _ _).trans (by
        funext a; apply Fin.ext
        match a with
        | ⟨0, _⟩ => show t.val * 256 + (i 0).val % 256 = (i 0).val; omega
        | ⟨1, _⟩ => rfl)
    exact e ▸ ((cfg0.win 12).blk t).view.emb_mem_set (ix2 ⟨(i 0).val % 256, Nat.mod_lt _ (by decide)⟩ (i 1))

theorem final13 (c : Dev nD) : (dats m 0 c).arrAt 13 cfg0.N
    = gAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_cover 13 (gAll (n := 8192) (V m c main_arg0) (V m c main_arg1) (V m c main_arg2) (V m c main_arg3) (V m c main_arg4) (V m c main_arg5) (V m c main_arg6) (V m c main_arg7) (V m c main_arg8) (V m c main_arg9) (V m c main_arg10)) (fun t _ => ?_) fun i => ?_
  · rw [flushed13_A, out13]
    refine funext fun (j : S256x3456.Idx) => ?_
    obtain ⟨r, k, rfl⟩ : ∃ (r : Fin 256) (k : Fin 3456), j = ix2 r k := ⟨j 0, j 1, eq_ix2 j⟩
    refine Eq.trans ?_ (congrArg (gAll (n := 8192) (V m c main_arg0) (V m c main_arg1) (V m c main_arg2) (V m c main_arg3) (V m c main_arg4) (V m c main_arg5) (V m c main_arg6) (V m c main_arg7) (V m c main_arg8) (V m c main_arg9) (V m c main_arg10)) (emb13 t r k)).symm
    refine (gcode_apply _ r k).trans ?_
    rw [gOut_row, hRow_blk, iblk6, iblk7, iblk8, iblk9, iblk10]
    rfl
  · have hi : (i 0).val < 8192 := (i 0).isLt
    obtain ⟨t, ht⟩ : ∃ t : Fin cfg0.N, t.val = (i 0).val / 256 := ⟨⟨(i 0).val / 256, by show _ < 32; omega⟩, rfl⟩
    refine ⟨t, flush0_13 _, ?_⟩
    have e : ((cfg0.win 13).blk t).view.emb (ix2 ⟨(i 0).val % 256, Nat.mod_lt _ (by decide)⟩ (i 1)) = i :=
      (emb13 t _ _).trans (by
        funext a; apply Fin.ext
        match a with
        | ⟨0, _⟩ => show t.val * 256 + (i 0).val % 256 = (i 0).val; omega
        | ⟨1, _⟩ => rfl)
    exact e ▸ ((cfg0.win 13).blk t).view.emb_mem_set (ix2 ⟨(i 0).val % 256, Nat.mod_lt _ (by decide)⟩ (i 1))

theorem final14 (c : Dev nD) : (dats m 0 c).arrAt 14 cfg0.N
    = sAll (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_cover 14 (sAll (n := 8192) (V m c main_arg0) (V m c main_arg1) (V m c main_arg2) (V m c main_arg3) (V m c main_arg4) (V m c main_arg5) (V m c main_arg6) (V m c main_arg7) (V m c main_arg8) (V m c main_arg9) (V m c main_arg10)) (fun t _ => ?_) fun i => ?_
  · rw [flushed14_A, out14]
    refine funext fun (j : S16x256.Idx) => ?_
    obtain ⟨k, r, rfl⟩ : ∃ (k : Fin 16) (r : Fin 256), j = ix2 k r := ⟨j 0, j 1, eq_ix2 j⟩
    refine Eq.trans ?_ (congrArg (sAll (n := 8192) (V m c main_arg0) (V m c main_arg1) (V m c main_arg2) (V m c main_arg3) (V m c main_arg4) (V m c main_arg5) (V m c main_arg6) (V m c main_arg7) (V m c main_arg8) (V m c main_arg9) (V m c main_arg10)) (emb14 t k r)).symm
    refine (pack_apply _ _ _ _ k r).trans ?_
    rw [scale_apply, hBlk_row, gexpo_apply, gOut_row, ← scale, hRow_blk, iblk6, iblk7, iblk8, iblk9, iblk10]
    rfl
  · have hi : (i 1).val < 8192 := (i 1).isLt
    obtain ⟨t, ht⟩ : ∃ t : Fin cfg0.N, t.val = (i 1).val / 256 := ⟨⟨(i 1).val / 256, by show _ < 32; omega⟩, rfl⟩
    refine ⟨t, flush0_14 _, ?_⟩
    have e : ((cfg0.win 14).blk t).view.emb (ix2 (i 0) ⟨(i 1).val % 256, Nat.mod_lt _ (by decide)⟩) = i :=
      (emb14 t _ _).trans (by
        funext a; apply Fin.ext
        match a with
        | ⟨0, _⟩ => rfl
        | ⟨1, _⟩ => show t.val * 256 + (i 1).val % 256 = (i 1).val; omega)
    exact e ▸ ((cfg0.win 14).blk t).view.emb_mem_set (ix2 (i 0) ⟨(i 1).val % 256, Nat.mod_lt _ (by decide)⟩)

end Cert.MlpOneIdeal.Value

namespace Cert.Proof

open Idealize.ShloMosaic Idealize.SL.Sem

/-- The call and its reference end with equal results. -/
theorem algebraic_one : Cert.algebraic_MlpOneIdeal_MlpOnePlainIdeal (hMlpOneIdeal := Cert.MlpOneIdeal.Gen.facts)
    (hMlpOnePlainIdeal := Cert.MlpOnePlainIdeal.Gen.facts) := by
  intro m g m' g' _ ha
  refine ⟨_, _, _, _, (θ_run _ _ _).mono (fun r h c => ⟨(h c).1.trans (Cert.MlpOneIdeal.Value.final11 m c),
      (h c).2.1.trans (Cert.MlpOneIdeal.Value.final12 m c), (h c).2.2.1.trans (Cert.MlpOneIdeal.Value.final13 m c),
      (h c).2.2.2.1.trans (Cert.MlpOneIdeal.Value.final14 m c), (h c).2.2.2.2⟩)
    (Cert.MlpOneIdeal.Value.run_blocks m g), (θ_run _ _ _).mono (fun r h c => ?_) (Cert.MlpOnePlainIdeal.Value.run m' g')⟩
  obtain ⟨a0, a1, a2, a3, a4, a5, a6, a7, a8, a9, a10⟩ := ha c
  have hc := h c
  simp only [a0, a1, a2, a3, a4, a5, a6, a7, a8, a9, a10] at hc ⊢
  exact hc

end Cert.Proof

end
-- ==== Proof.Two.lean ====
/- The last call (`mlp2`) against the plain reference: every element of the result. -/
module

public import proofs.«01_k».proof.Defs
public import proofs.«01_k».proof.Proof.Layer
public import proofs.«01_k».proof.Proof.Gen.MlpTwoIdeal.Value
public import proofs.«01_k».proof.Proof.Gen.MlpTwoPlainIdeal.Value

@[expose] public section

noncomputable section

namespace Cert.MlpTwoIdeal.Value

open Cert.MlpTwoIdeal Cert.MlpTwoIdeal.Gen Cert.Layer Idealize.ShloMosaic Idealize.ShloMosaic.TcCoe Idealize.SL.Sem

/-- What the body leaves in its output block: ten stores side by side, each the same function of the block's index. -/
theorem out_apply (h : Vec Ideal S256x5120 .f32) (g : Vec Ideal S256x3456 .fp8e4m3) (s : Vec Ideal S16x256 .f32)
    (w : Vec Ideal S3456x5120 .fp8e4m3) (ws b : Vec Ideal S1x5120 .f32) (y : S256x5120.Idx) :
    out0_6 h g s w ws b y = yElem h g s w ws b (y 0) (y 1) := by
  unfold out0_6
  refine View.canon_apply_of_pieces (Val := Elt Ideal) (fun y : S256x5120.Idx => yElem h g s w ws b (y 0) (y 1)) _ ?_ y
    (cover0_6 _ _ _ _ _ _ _ _ _ _ y)
  intro p hp
  simp only [List.mem_cons, List.not_mem_nil, or_false] at hp
  rcases hp with rfl | rfl | rfl | rfl | rfl | rfl | rfl | rfl | rfl | rfl <;> intro x <;> rw [eq_ix2 x]
  all_goals
    pointwise [emb_idx, yElem, lin, k0_pay1, k0_pay2, k0_pay3, k0_pay4, k0_pay5, k0_pay6, k0_pay7, k0_pay8, k0_pay9, k0_pay10,
      k0_pay11, k0_pay12]

variable (m : (ℓ : Loc nD τ sig) → Buf (Elt Ideal) ℓ)

/-- Row `r` of grid point `t`'s block. -/
def row (t : Fin cfg0.N) (r : Fin 256) : Fin 8192 := ⟨t.val * 256 + r.val, by have : t.val < 32 := t.isLt; omega⟩

theorem emb0 (t : Fin cfg0.N) (r : Fin 256) (k : Fin 5120) : ((cfg0.win 0).blk t).view.emb (ix2 r k) = ix2 (row t r) k := by
  obtain ⟨e0, e1⟩ := (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 256 + 1 * r.val = t.val * 256 + r.val; omega
  | ⟨1, _⟩ => show win0_0.index t (1 : Fin 2) * 5120 + 1 * k.val = k.val; omega

theorem emb1 (t : Fin cfg0.N) (r : Fin 256) (k : Fin 3456) : ((cfg0.win 1).blk t).view.emb (ix2 r k) = ix2 (row t r) k := by
  obtain ⟨e0, e1⟩ := (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 256 + 1 * r.val = t.val * 256 + r.val; omega
  | ⟨1, _⟩ => show win0_1.index t (1 : Fin 2) * 3456 + 1 * k.val = k.val; omega

theorem emb2 (t : Fin cfg0.N) (k : Fin 16) (r : Fin 256) : ((cfg0.win 2).blk t).view.emb (ix2 k r) = ix2 k (row t r) := by
  obtain ⟨e0, e1⟩ := (by decide +kernel : ∀ t : Fin grid0.N, win0_2.index t (0 : Fin 2) = 0 ∧ win0_2.index t (1 : Fin 2) = t.val) t
  funext a; apply Fin.ext
  match a with
  | ⟨0, _⟩ => show win0_2.index t (0 : Fin 2) * 16 + 1 * k.val = k.val; omega
  | ⟨1, _⟩ => show win0_2.index t (1 : Fin 2) * 256 + 1 * r.val = t.val * 256 + r.val; omega

theorem emb3 (t : Fin cfg0.N) (j : S3456x5120.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 3456 + 1 * (j 0).val = (j 0).val; omega
  | ⟨1, _⟩ => show win0_3.index t (1 : Fin 2) * 5120 + 1 * (j 1).val = (j 1).val; omega

theorem emb4 (t : Fin cfg0.N) (j : S1x5120.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 5120 + 1 * (j 1).val = (j 1).val; omega

theorem emb5 (t : Fin cfg0.N) (j : S1x5120.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

theorem emb6 (t : Fin cfg0.N) (j : S256x5120.Idx) : ((cfg0.win 6).blk t).view.emb j = ix2 (row t (j 0)) (j 1) := by
  obtain ⟨e0, e1⟩ := (by decide +kernel : ∀ t : Fin grid0.N, win0_6.index t (0 : Fin 2) = t.val ∧ win0_6.index t (1 : Fin 2) = 0) t
  funext a; apply Fin.ext
  match a with
  | ⟨0, _⟩ => show win0_6.index t (0 : Fin 2) * 256 + 1 * (j 0).val = t.val * 256 + (j 0).val; omega
  | ⟨1, _⟩ => show win0_6.index t (1 : Fin 2) * 5120 + 1 * (j 1).val = (j 1).val; omega

/-- The call's result as one function of the argument arrays. -/
def Y (h : Vec Ideal S8192x5120 .f32) (g : Vec Ideal S8192x3456 .fp8e4m3) (s : Vec Ideal S16x8192 .f32)
    (w : Vec Ideal S3456x5120 .fp8e4m3) (ws b : Vec Ideal S1x5120 .f32) : Vec Ideal S8192x5120 .bf16 :=
  fun i => yElem h g s w ws b (i 0) (i 1)

/-- What grid point `t` writes back is its block of `Y` of the arrays. -/
theorem flushed_eq (c : Dev nD) (t : Fin cfg0.N) :
    (dats m 0 c).flushed 6 t = ((cfg0.win 6).blk t).view.read (Elt Ideal)
      (Y (V m c main_arg0) (V m c main_arg1) (V m c main_arg2) (V m c main_arg3) (V m c main_arg4) (V m c main_arg5)) := by
  rw [flushed6]
  funext j
  show out0_6 (iblk m c 0 t) (iblk m c 1 t) (iblk m c 2 t) (iblk m c 3 t) (iblk m c 4 t) (iblk m c 5 t) j
    = Y (V m c main_arg0) (V m c main_arg1) (V m c main_arg2) (V m c main_arg3) (V m c main_arg4) (V m c main_arg5)
        (((cfg0.win 6).blk t).view.emb j)
  refine (out_apply _ _ _ _ _ _ j).trans (Eq.trans ?_ (congrArg (Y _ _ _ _ _ _) (emb6 t j)).symm)
  exact yElem_congr (n := 256) (n' := 8192) (r := j 0) (r' := row t (j 0)) (j 1)
    (fun k => congrArg (V m c main_arg0) (emb0 t (j 0) k)) (fun k => congrArg (V m c main_arg1) (emb1 t (j 0) k))
    (fun k => congrArg (V m c main_arg2) (emb2 t k (j 0))) (funext fun i => congrArg (V m c main_arg3) (emb3 t i))
    (funext fun i => congrArg (V m c main_arg4) (emb4 t i)) (funext fun i => congrArg (V m c main_arg5) (emb5 t i))

/-- Every index of the array is in some point's block. -/
theorem covered (i : S8192x5120.Idx) :
    ∃ t : Fin cfg0.N, (cfg0.win 6).flush t = true ∧ i ∈ ((cfg0.win 6).blk t).view.set := by
  have hi : (i 0).val < 8192 := (i 0).isLt
  obtain ⟨t, ht⟩ : ∃ t : Fin cfg0.N, t.val = (i 0).val / 256 := ⟨⟨(i 0).val / 256, by show _ < 32; omega⟩, rfl⟩
  refine ⟨t, flush0_6 _, ?_⟩
  have e : ((cfg0.win 6).blk t).view.emb (ix2 ⟨(i 0).val % 256, Nat.mod_lt _ (by decide)⟩ (i 1)) = i :=
    (emb6 t _).trans (by
      funext a; apply Fin.ext
      match a with
      | ⟨0, _⟩ => show t.val * 256 + (i 0).val % 256 = (i 0).val; omega
      | ⟨1, _⟩ => rfl)
  exact e ▸ ((cfg0.win 6).blk t).view.emb_mem_set (ix2 ⟨(i 0).val % 256, Nat.mod_lt _ (by decide)⟩ (i 1))

theorem final (c : Dev nD) : (dats m 0 c).arrAt 6 cfg0.N
    = Y (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  ((dats m 0 c).arrAt_eq_of_cover 6 (Y (V m c main_arg0) (V m c main_arg1) (V m c main_arg2) (V m c main_arg3) (V m c main_arg4)
    (V m c main_arg5)) (fun t _ => flushed_eq m c t) covered).trans
    (by rw [V_main_arg0, V_main_arg1, V_main_arg2, V_main_arg3, V_main_arg4, V_main_arg5])

/-- The plain reference's result is the same function. -/
theorem plain_eq (h : Vec Ideal S8192x5120 .f32) (g : Vec Ideal S8192x3456 .fp8e4m3) (s : Vec Ideal S16x8192 .f32)
    (w : Vec Ideal S3456x5120 .fp8e4m3) (ws b : Vec Ideal S1x5120 .f32) :
    Cert.MlpTwoPlainIdeal.Value.G6 (F := Ideal) h g s w ws b = Y h g s w ws b := by
  funext i
  rw [eq_ix2 i]
  pointwise [Y, yElem, lin, Cert.MlpTwoPlainIdeal.Gen.k0_pay1]

end Cert.MlpTwoIdeal.Value

namespace Cert.Proof

open Idealize.ShloMosaic Idealize.SL.Sem

/-- The call and its reference end with equal results. -/
theorem algebraic_two : Cert.algebraic_MlpTwoIdeal_MlpTwoPlainIdeal (hMlpTwoIdeal := Cert.MlpTwoIdeal.Gen.facts)
    (hMlpTwoPlainIdeal := Cert.MlpTwoPlainIdeal.Gen.facts) := by
  intro m g m' g' _ ha
  refine ⟨_, (θ_run _ _ _).mono (fun r h c => ⟨(h c).1.trans (Cert.MlpTwoIdeal.Value.final m c), (h c).2⟩)
    (Cert.MlpTwoIdeal.Value.run_blocks m g), (θ_run _ _ _).mono (fun r h c => ⟨(h c).1.trans ?_, (h c).2⟩)
    (Cert.MlpTwoPlainIdeal.Value.run m' g')⟩
  obtain ⟨a0, a1, a2, a3, a4, a5⟩ := ha c
  refine (Cert.MlpTwoIdeal.Value.plain_eq _ _ _ _ _ _).trans ?_
  rw [← a0, ← a1, ← a2, ← a3, ← a4, ← a5]

end Cert.Proof

end
-- ==== Proof.lean ====
/- The certificate: each call's frames, its idealization and its values. -/
module

public import proofs.«01_k».proof.Defs
public import proofs.«01_k».proof.Proof.Gen.Qkv.Frame
public import proofs.«01_k».proof.Proof.Gen.QkvIdeal.Frame
public import proofs.«01_k».proof.Proof.Gen.QkvPlainIdeal.Frame
public import proofs.«01_k».proof.Proof.Gen.MlpOne.Frame
public import proofs.«01_k».proof.Proof.Gen.MlpOneIdeal.Frame
public import proofs.«01_k».proof.Proof.Gen.MlpOnePlainIdeal.Frame
public import proofs.«01_k».proof.Proof.Gen.MlpTwo.Frame
public import proofs.«01_k».proof.Proof.Gen.MlpTwoIdeal.Frame
public import proofs.«01_k».proof.Proof.Gen.MlpTwoPlainIdeal.Frame
public import proofs.«01_k».proof.Proof.AttnEnds
public import proofs.«01_k».proof.Proof.AttnIdealEnds
public import proofs.«01_k».proof.Proof.Qkv
public import proofs.«01_k».proof.Proof.One
public import proofs.«01_k».proof.Proof.Two

@[expose] public section

noncomputable section

namespace Cert.Proof

open Idealize.ShloMosaic Idealize.SL.Sem

theorem claim : Cert.Claim :=
 ⟨Cert.Qkv.Gen.facts, Cert.QkvIdeal.Gen.facts, Cert.QkvPlainIdeal.Gen.facts, Cert.MlpOne.Gen.facts, Cert.MlpOneIdeal.Gen.facts, Cert.MlpOnePlainIdeal.Gen.facts, Cert.MlpTwo.Gen.facts, Cert.MlpTwoIdeal.Gen.facts, Cert.MlpTwoPlainIdeal.Gen.facts,
  Cert.Attn.Gen.facts, Cert.AttnIdeal.Gen.facts,
  fun m g _ => Cert.Qkv.Gen.frame m g,
  fun m g _ => Cert.QkvIdeal.Gen.frame m g,
  fun m g _ => Cert.QkvPlainIdeal.Gen.frame m g,
  fun m g _ => Cert.MlpOne.Gen.frame m g,
  fun m g _ => Cert.MlpOneIdeal.Gen.frame m g,
  fun m g _ => Cert.MlpOnePlainIdeal.Gen.frame m g,
  fun m g _ => Cert.MlpTwo.Gen.frame m g,
  fun m g _ => Cert.MlpTwoIdeal.Gen.frame m g,
  fun m g _ => Cert.MlpTwoPlainIdeal.Gen.frame m g,
  fun m g _ => Cert.Attn.Ends.frame m g,
  fun m g _ => Cert.AttnIdeal.Ends.frame m g,
  trivial,
  algebraic_qkv,
  trivial,
  algebraic_one,
  trivial,
  algebraic_two,
  trivial⟩

end Cert.Proof

end
